-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_clip_KernelIdeal [hPre_in_clip_KernelIdeal : Cert.Pre_in_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_clip_ReferenceIdeal [hPre_in_clip_ReferenceIdeal : Cert.Pre_in_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_clip_KernelIdeal [hKernelIdeal : Cert.KernelIdeal.Facts] [hPre_in_clip_KernelIdeal : Cert.Pre_in_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_clip_ReferenceIdeal [hReferenceIdeal : Cert.ReferenceIdeal.Facts] [hPre_in_clip_ReferenceIdeal : Cert.Pre_in_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_pre_in_clip_KernelIdeal [hKernelIdeal : Cert.KernelIdeal.Facts] [hReferenceIdeal : Cert.ReferenceIdeal.Facts] [hPre_in_clip_KernelIdeal : Cert.Pre_in_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_clip_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v7) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_in_clip_KernelIdeal : Cert.Pre_in_clip_KernelIdeal.Facts) (hPre_in_clip_ReferenceIdeal : Cert.Pre_in_clip_ReferenceIdeal.Facts),
    quiescent_Kernel (hKernel := hKernel)
    ∧ quiescent_KernelIdeal (hKernelIdeal := hKernelIdeal)
    ∧ quiescent_KernelIdeal_pre_in_clip_KernelIdeal (hKernelIdeal := hKernelIdeal) (hPre_in_clip_KernelIdeal := hPre_in_clip_KernelIdeal)
    ∧ quiescent_ReferenceIdeal (hReferenceIdeal := hReferenceIdeal)
    ∧ quiescent_ReferenceIdeal_pre_in_clip_ReferenceIdeal (hReferenceIdeal := hReferenceIdeal) (hPre_in_clip_ReferenceIdeal := hPre_in_clip_ReferenceIdeal)
    ∧ quiescent_SiluIdeal (hSiluIdeal := hSiluIdeal)
    ∧ preserves_Kernel_KernelIdeal
    ∧ algebraic_KernelIdeal_ReferenceIdeal_pre_in_clip_KernelIdeal (hKernelIdeal := hKernelIdeal) (hReferenceIdeal := hReferenceIdeal) (hPre_in_clip_KernelIdeal := hPre_in_clip_KernelIdeal)
    ∧ algebraic_KernelIdeal_SiluIdeal (hKernelIdeal := hKernelIdeal) (hSiluIdeal := hSiluIdeal)
-- ==== Pre_in_clip_KernelIdeal.lean ====
abbrev S512x2048 : Shape := ⟨2, ![512, 2048]⟩
abbrev S2048x2048 : Shape := ⟨2, ![2048, 2048]⟩
abbrev S_ : Shape := ⟨0, ![]⟩

class Facts : Prop where
  bcast_S_S512x2048 : S_.BroadcastsInDim S512x2048 (![] : Fin 0 → Fin S512x2048.rank)
  dot_S512x2048_S2048x2048_S512x2048_1_0_0_1_n_n_wf : DotDims.WF S512x2048 S2048x2048 S512x2048 [1] [0] [0] [1] [] []

variable [Facts]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def fn {F : FTy → Type} [FloatOps F] (main_arg0 : FVec F S512x2048 .bf16) (main_arg1 : FVec F S2048x2048 .bf16) : IVec S512x2048 1 :=
  let main_v0 : FVec F S512x2048 .f32 := (fun l r => Host.dotGeneral dot_S512x2048_S2048x2048_S512x2048_1_0_0_1_n_n none l r) main_arg0 main_arg1
  let main_v1 : FVec F S512x2048 .f32 := Host.absf main_v0
  let main_cst : FVec F S_ .f32 := constant S_ .f32 0x42700000#32
  let main_v2 : FVec F S512x2048 .f32 := broadcastInDim S512x2048 ![] bcast_S_S512x2048 main_cst
  let main_v3 : IVec S512x2048 1 := cmpf .ole main_v1 main_v2
  main_v3
-- ==== Pre_in_clip_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S512x2048 : Shape := ⟨2, ![512, 2048]⟩
abbrev S2048x2048 : Shape := ⟨2, ![2048, 2048]⟩
abbrev S2048x512 : Shape := ⟨2, ![2048, 512]⟩
abbrev S4x512x512 : Shape := ⟨3, ![4, 512, 512]⟩
abbrev S4 : Shape := ⟨1, ![4]⟩
abbrev S_ : Shape := ⟨0, ![]⟩
abbrev S512x512 : Shape := ⟨2, ![512, 512]⟩
abbrev S1x512x512 : Shape := ⟨3, ![1, 512, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S2048x2048, .bf16⟩
  | .hbm, ⟨2, _⟩ => ⟨S2048x512, .f32⟩
  | .local _ .vmem, ⟨0, _⟩ => ⟨S512x2048, .bf16⟩
  | .local _ .vmem, ⟨1, _⟩ => ⟨S2048x2048, .bf16⟩
  | .local _ .vmem, ⟨2, _⟩ => ⟨S2048x512, .f32⟩
  | .local _ .vmem, ⟨3, _⟩ => ⟨S4x512x512, .bf16⟩
  | .local _ .vmem, ⟨4, _⟩ => ⟨S4x512x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_34 : BitVec 32 := 0#32
  let v53 : BitVec 1 := Scalar.cmpi .ne v2 c0_i32_34
  let v54 : BitVec 32 := Scalar.extui v53
  let c0_i32_37 : BitVec 32 := 0#32
  let v55 : BitVec 1 := Scalar.cmpi .ne v54 c0_i32_37
  v55

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_104 : BitVec 32 := 0#32
  let c0_i32_105 : BitVec 32 := 0#32
  ![v2.toNat, 0, 0]
def k0_dev4 : Nat :=
  let c0_i32_103 : BitVec 32 := 0#32
  let c0_i32_101 : BitVec 32 := 0#32
  let c1_i32_102 : BitVec 32 := 1#32
  let v132 : BitVec 32 := Scalar.muli c0_i32_101 c1_i32_102
  let v133 : BitVec 32 := Scalar.addi c0_i32_103 v132
  v133.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v60 : BitVec 1 := Scalar.cmpi .ne v2 c1_i32_40
  let v61 : BitVec 32 := Scalar.extui v60
  let c0_i32_43 : BitVec 32 := 0#32
  let v62 : BitVec 1 := Scalar.cmpi .ne v61 c0_i32_43
  v62

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_104 : BitVec 32 := 0#32
  let c0_i32_105 : BitVec 32 := 0#32
  ![v2.toNat, 0, 0]
def k0_dev5 : Nat :=
  let c0_i32_103 : BitVec 32 := 0#32
  let c1_i32_101 : BitVec 32 := 1#32
  let c1_i32_102 : BitVec 32 := 1#32
  let v132 : BitVec 32 := Scalar.muli c1_i32_101 c1_i32_102
  let v133 : BitVec 32 := Scalar.addi c0_i32_103 v132
  v133.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_46 : BitVec 32 := 2#32
  let v67 : BitVec 1 := Scalar.cmpi .ne v2 c2_i32_46
  let v68 : BitVec 32 := Scalar.extui v67
  let c0_i32_49 : BitVec 32 := 0#32
  let v69 : BitVec 1 := Scalar.cmpi .ne v68 c0_i32_49
  v69

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_104 : BitVec 32 := 0#32
  let c0_i32_105 : BitVec 32 := 0#32
  ![v2.toNat, 0, 0]
def k0_dev6 : Nat :=
  let c0_i32_103 : BitVec 32 := 0#32
  let c2_i32_101 : BitVec 32 := 2#32
  let c1_i32_102 : BitVec 32 := 1#32
  let v132 : BitVec 32 := Scalar.muli c2_i32_101 c1_i32_102
  let v133 : BitVec 32 := Scalar.addi c0_i32_103 v132
  v133.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_52 : BitVec 32 := 3#32
  let v74 : BitVec 1 := Scalar.cmpi .ne v2 c3_i32_52
  let v75 : BitVec 32 := Scalar.extui v74
  let c0_i32_55 : BitVec 32 := 0#32
  let v76 : BitVec 1 := Scalar.cmpi .ne v75 c0_i32_55
  v76

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_104 : BitVec 32 := 0#32
  let c0_i32_105 : BitVec 32 := 0#32
  ![v2.toNat, 0, 0]
def k0_dev7 : Nat :=
  let c0_i32_103 : BitVec 32 := 0#32
  let c3_i32_101 : BitVec 32 := 3#32
  let c1_i32_102 : BitVec 32 := 1#32
  let v132 : BitVec 32 := Scalar.muli c3_i32_101 c1_i32_102
  let v133 : BitVec 32 := Scalar.addi c0_i32_103 v132
  v133.toNat
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : Index := Scalar.indexCast v2
  let c0_56 : Index := 0#32
  let c0_57 : Index := 0#32
  ![v77.toNat, 0, 0]
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_85 : BitVec 32 := 0#32
  let v120 : BitVec 1 := Scalar.cmpi .ne v2 c0_i32_85
  let v121 : BitVec 32 := Scalar.extui v120
  let c0_i32_88 : BitVec 32 := 0#32
  let v122 : BitVec 1 := Scalar.cmpi .ne v121 c0_i32_88
  v122

def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_105 : BitVec 32 := 0#32
  let c0_i32_106 : BitVec 32 := 0#32
  ![v2.toNat, 0, 0]
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_89 : BitVec 32 := 1#32
  let v123 : BitVec 1 := Scalar.cmpi .ne v2 c1_i32_89
  let v124 : BitVec 32 := Scalar.extui v123
  let c0_i32_92 : BitVec 32 := 0#32
  let v125 : BitVec 1 := Scalar.cmpi .ne v124 c0_i32_92
  v125

def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_105 : BitVec 32 := 0#32
  let c0_i32_106 : BitVec 32 := 0#32
  ![v2.toNat, 0, 0]
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_93 : BitVec 32 := 2#32
  let v126 : BitVec 1 := Scalar.cmpi .ne v2 c2_i32_93
  let v127 : BitVec 32 := Scalar.extui v126
  let c0_i32_96 : BitVec 32 := 0#32
  let v128 : BitVec 1 := Scalar.cmpi .ne v127 c0_i32_96
  v128

def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_105 : BitVec 32 := 0#32
  let c0_i32_106 : BitVec 32 := 0#32
  ![v2.toNat, 0, 0]
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_97 : BitVec 32 := 3#32
  let v129 : BitVec 1 := Scalar.cmpi .ne v2 c3_i32_97
  let v130 : BitVec 32 := Scalar.extui v129
  let c0_i32_100 : BitVec 32 := 0#32
  let v131 : BitVec 1 := Scalar.cmpi .ne v130 c0_i32_100
  v131

def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_105 : BitVec 32 := 0#32
  let c0_i32_106 : BitVec 32 := 0#32
  ![v2.toNat, 0, 0]
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SiluIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Slots.lean ====
/-
# Slots: the parts of a core's scratch buffers, and accesses to them

The kernel cuts each of its two scratch buffers into four slots (one per device) and its result buffer into four bands
of rows. Here: those parts as memrefs; owning a whole buffer is owning its parts; a load or a store through a part acts
on that part's ownership only; and what a transfer between two slots, taken with their unit axis dropped, leaves at its
destination.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.ViewIndex
public import Idealize.ShloMosaic.Lib.Ring
public import Idealize.ShloMosaic.Lib.Tactic
public import Idealize.ShloMosaic.Lib.ValueIdxCore

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The parts -/

theorem slot_inb (d : Fin 4) : ∀ a, (![d.val, 0, 0] : Fin 3 → ℕ) a + S1x512x512.size a ≤ S4x512x512.size a := by
  revert d; decide
theorem band_inb (d : Fin 4) : ∀ a, (![512 * d.val, 0] : Fin 2 → ℕ) a + S512x512.size a ≤ S2048x512.size a := by
  revert d; decide
theorem sem_inb (d : Fin 4) : ∀ a, (![d.val] : Fin 1 → ℕ) a + S1.size a ≤ S4.size a := by
  revert d; decide

/-- The rectangle of a scratch buffer's slot `d`. -/
abbrev slotRect (d : Fin 4) : Rect S4x512x512 := Rect.unit (s := S4x512x512) ![d.val, 0, 0] S1x512x512.size (slot_inb d)
/-- The rectangle of the result's band `d`: rows `512 d` to `512 d + 511`. -/
abbrev bandRect (d : Fin 4) : Rect S2048x512 := Rect.unit (s := S2048x512) ![512 * d.val, 0] S512x512.size (band_inb d)

/-- Slot `d` of a scratch buffer. -/
abbrev slot (b : Memref sig .tc .vmem S4x512x512 .bf16) (d : Fin 4) : Memref sig .tc .vmem S1x512x512 .bf16 :=
  b.slice (slotRect d) (fun _ => rfl)
/-- Slot `d` with its unit axis dropped: what a transfer names. -/
abbrev lane (b : Memref sig .tc .vmem S4x512x512 .bf16) (d : Fin 4) : Memref sig .tc .vmem S512x512 .bf16 :=
  (slot b d).squeeze S512x512 Facts₀.squeezes_S1x512x512_S512x512
/-- Band `d` of the result's staging buffer. -/
abbrev band (b : Memref sig .tc .vmem S2048x512 .f32) (d : Fin 4) : Memref sig .tc .vmem S512x512 .f32 :=
  b.slice (bandRect d) (fun _ => rfl)
/-- Entry `d` of an array of four semaphores. -/
abbrev entry (a : DmaSems sig S4) (d : Fin 4) : DmaSem sig :=
  ((a.slice (Rect.unit (s := S4) ![d.val] S1.size (sem_inb d))).squeeze S_ Facts₀.squeezes_S1_S_).sem

theorem slot_disjoint (d d' : Fin 4) (h : d ≠ d') : Disjoint (slotRect d).set (slotRect d').set :=
  Ring.lead_disjoint (s := S4x512x512) (NB := 4) (0 : Fin 3) 1 (fun d : Fin 4 => ![d.val, 0, 0]) S1x512x512.size slot_inb
    (fun d => by simp) rfl d d' h

theorem slot_cover : Finset.univ.biUnion (fun d => (slotRect d).set) = Finset.univ :=
  Ring.lead_cover (s := S4x512x512) (NB := 4) (0 : Fin 3) 1 (fun d : Fin 4 => ![d.val, 0, 0]) S1x512x512.size slot_inb
    (fun d => by simp) (fun d a ha => by revert ha; fin_cases a <;> simp) rfl
    (fun a ha => by revert ha; fin_cases a <;> simp [Shape.size]) rfl

theorem band_disjoint (d d' : Fin 4) (h : d ≠ d') : Disjoint (bandRect d).set (bandRect d').set :=
  Ring.lead_disjoint (s := S2048x512) (NB := 4) (0 : Fin 2) 512 (fun d : Fin 4 => ![512 * d.val, 0]) S512x512.size band_inb
    (fun d => by simp) rfl d d' h

theorem band_cover : Finset.univ.biUnion (fun d => (bandRect d).set) = Finset.univ :=
  Ring.lead_cover (s := S2048x512) (NB := 4) (0 : Fin 2) 512 (fun d : Fin 4 => ![512 * d.val, 0]) S512x512.size band_inb
    (fun d => by simp) (fun d a ha => by revert ha; fin_cases a <;> simp) rfl
    (fun a ha => by revert ha; fin_cases a <;> simp [Shape.size]) rfl

/-- The semaphore an array names at an offset equal to `d`'s. -/
theorem entry_of_off (a : DmaSems sig S4) (d : Fin 4) {off : Fin 1 → ℕ} (h : off = ![d.val])
    (inb : ∀ i, off i + S1.size i ≤ S4.size i) :
    ((a.slice (Rect.unit (s := S4) off S1.size inb)).squeeze S_ Facts₀.squeezes_S1_S_).sem = entry a d := by
  subst h; rfl

/-! ## Accesses to a part -/

variable {Val : EltTy → Type} {Name : Type} [DecidableEq Name] {U : Type} [URA U] {Lvl : Type} [Preorder Lvl]
variable {Ix : Type} [DecidableEq Ix]

local notation "𝕄" => MT nD τ sig Ix Val Name U Lvl

section Access

variable {Λ : Labels} {defs : Defs nD τ sig Val Λ} (𝒱 : Variants) (c : Dev nD) (bd : Option 𝒱.V) (E : Set Name)
variable {α : Type} {s : Shape} {e : EltTy}

/-- A load at a part's rectangle reads what the part holds. -/
theorem load_part {cs : CoreSpace} {m : Memref sig .tc cs s e} {r : Rect s} (hr : ∀ a, r.stride a = 1)
    {hl : m.view.LoadsAt r.toLoadRect} {k : (r.shape.Idx → Val e) → Prog (TpuEff nD τ sig Val Λ .tc) α}
    {q : PosShare TreeShare} {X : r.shape.Idx → Val e} {Q : α → sProp 𝕄} :
    (owns (c : Thread nD τ) (m.slice r hr) q X : sProp 𝕄)
      ⊢ iprop((owns (c : Thread nD τ) (m.slice r hr) q X -∗ wp frame (wpE defs 𝒱 (c : Thread nD τ) bd) E (k X) Q)
        -∗ wp frame (wpE defs 𝒱 (c : Thread nD τ) bd) E (.op (.load m r.toLoadRect hl) k) Q) := by
  unfold owns
  iintro ⟨%f, %hf, H⟩ Hk
  subst hf
  iapply (wp_load_rect 𝒱 (c : Thread nD τ) bd E (m := m) (r := r) (S := (m.slice r hr).view.set) (q := q) (f := f) subset_rfl) $$ H
  iintro H
  iapply Hk
  iexists f
  isplitr; · ipureintro; rfl
  iexact H

/-- A store at a part's rectangle leaves the part holding what was stored. -/
theorem store_part {cs : CoreSpace} {m : Memref sig .tc cs s e} {r : Rect s} (hr : ∀ a, r.stride a = 1) {w : r.shape.Idx → Val e}
    {hx : (m.access r).Stores Finset.univ} {hm : (Finset.univ : Finset r.shape.Idx) = Finset.univ ∨ ∀ a, r.stride a = 1}
    {k : PUnit → Prog (TpuEff nD τ sig Val Λ .tc) α} {X : r.shape.Idx → Val e} {Q : α → sProp 𝕄} :
    (owns (c : Thread nD τ) (m.slice r hr) fullShare X : sProp 𝕄)
      ⊢ iprop((owns (c : Thread nD τ) (m.slice r hr) fullShare w -∗ wp frame (wpE defs 𝒱 (c : Thread nD τ) bd) E (k ⟨⟩) Q)
        -∗ wp frame (wpE defs 𝒱 (c : Thread nD τ) bd) E (.op (.store m r w Finset.univ hx hm) k) Q) := by
  unfold owns
  iintro ⟨%f, %hf, H⟩ Hk
  iapply (wp_store 𝒱 (c : Thread nD τ) bd E (m := m) (r := r) (w := w) (hx := hx) (hm := hm) (S := (m.slice r hr).view.set) (f := f)
    (by rw [View.setOn_univ])) $$ H
  iintro H
  iapply Hk
  iexists (m.access r).write Val f w Finset.univ
  isplitr; · ipureintro; exact View.read_write_univ f w
  iexact H

end Access

/-! ## A transfer between two slots -/

/-- A slot's elements, by its lane. -/
theorem lane_set (b : Memref sig .tc .vmem S4x512x512 .bf16) (d : Fin 4) : (lane b d).view.set = (slot b d).view.set :=
  View.set_reshape (slot b d).view Facts₀.squeezes_S1x512x512_S512x512.numel_eq

/-- What a transfer from a slot holding `X` leaves, through lanes, at its destination: the destination slot holds `X`. -/
theorem owns_landed (c' : Dev nD) (b b' : Memref sig .tc .vmem S4x512x512 .bf16) (d d' : Fin 4)
    (fs : b.view.ty.Contents Val) (fd : b'.view.ty.Contents Val) {X : S1x512x512.Idx → Val .bf16}
    (hX : (slot b d).view.read Val fs = X) :
    ((lane b' d').view.loc (c' : Thread nD τ) ↦[(lane b' d').view.set]{fullShare}
        ((lane b' d').view.write Val fd ((lane b d).view.read Val fs) Finset.univ) : sProp 𝕄)
      ⊢ owns (c' : Thread nD τ) (slot b' d') fullShare X := by
  subst hX
  unfold owns
  iintro H
  iexists (lane b' d').view.write Val fd ((lane b d).view.read Val fs) Finset.univ
  isplitr
  · ipureintro
    funext j
    obtain ⟨i, rfl⟩ := (Shape.reshapeEquiv (Facts₀.squeezes_S1x512x512_S512x512).numel_eq).surjective j
    exact View.read_write_reshape (slot b' d').view (Facts₀.squeezes_S1x512x512_S512x512).numel_eq fd _ i
  · rw [← lane_set b' d']
    iexact H

/-! ## A buffer and its parts -/

/-- A scratch buffer at some contents: its slots, each at some contents. -/
theorem slots_split (c : Dev nD) (b : Memref sig .tc .vmem S4x512x512 .bf16) (X : S4x512x512.Idx → Val .bf16) :
    (owns (c : Thread nD τ) b fullShare X : sProp 𝕄)
      ⊢ bigSep Finset.univ fun d : Fin 4 => iprop(∃ Y, owns (c : Thread nD τ) (slot b d) fullShare Y) := by
  have h (d : Fin 4) : (owns (c : Thread nD τ) (slot b d) fullShare (fun j => X ((slotRect d).emb j)) : sProp 𝕄)
      ⊢ iprop(∃ Y, owns (c : Thread nD τ) (slot b d) fullShare Y) := by
    iintro H; iexists _; iexact H
  exact (owns_rects (c : Thread nD τ) b fullShare slotRect (fun _ _ => rfl) (fun t t' h => slot_disjoint t t' h) slot_cover X).trans
    (BI.bigSep_mono fun d _ => h d)

/-- A scratch buffer's contents from its slots'. -/
def glue {V : Type} (Y : Fin 4 → S1x512x512.Idx → V) : S4x512x512.Idx → V :=
  fun i => Y (i 0) (ValueIdx.ix3 (0 : Fin 1) (i 1 : Fin 512) (i 2 : Fin 512))
theorem glue_emb {V : Type} (Y : Fin 4 → S1x512x512.Idx → V) (d : Fin 4) (j : S1x512x512.Idx) : glue Y ((slotRect d).emb j) = Y d j := by
  have h0 : (slotRect d).emb j 0 = d := Fin.ext (by
    rw [Rect.emb_apply]; have := (j 0).isLt
    have h : (j 0).val < 1 := this
    show d.val + 1 * (j 0).val = d.val; omega)
  have hj : ValueIdx.ix3 (0 : Fin 1) ((slotRect d).emb j 1 : Fin 512) ((slotRect d).emb j 2 : Fin 512) = j := by
    funext a; match a with
    | ⟨0, _⟩ => exact Fin.ext (by have h : (j 0).val < 1 := (j 0).isLt; show 0 = (j 0).val; omega)
    | ⟨1, _⟩ => exact Fin.ext (by show 0 + 1 * (j 1).val = (j 1).val; omega)
    | ⟨2, _⟩ => exact Fin.ext (by show 0 + 1 * (j 2).val = (j 2).val; omega)
  exact (congrArg (Y · _) h0).trans (congrArg (Y d) hj)

/-- The result's contents from its bands'. -/
def stack {V : Type} (Y : Fin 4 → S512x512.Idx → V) : S2048x512.Idx → V := fun i =>
  Y ⟨(i 0).val / 512, by have h : (i 0).val < 2048 := (i 0).isLt; omega⟩
    (ValueIdx.ix2 (⟨(i 0).val % 512, Nat.mod_lt _ (by decide)⟩ : Fin 512) (i 1 : Fin 512))
theorem stack_emb {V : Type} (Y : Fin 4 → S512x512.Idx → V) (d : Fin 4) (j : S512x512.Idx) : stack Y ((bandRect d).emb j) = Y d j := by
  have e0 : ((bandRect d).emb j 0).val = 512 * d.val + (j 0).val := by
    rw [Rect.emb_apply]; show 512 * d.val + 1 * (j 0).val = _; omega
  have h : (j 0).val < 512 := (j 0).isLt
  have h0 : (⟨((bandRect d).emb j 0).val / 512, by omega⟩ : Fin 4) = d := Fin.ext (by show _ / 512 = _; rw [e0]; omega)
  have hj : ValueIdx.ix2 (⟨((bandRect d).emb j 0).val % 512, Nat.mod_lt _ (by decide)⟩ : Fin 512) ((bandRect d).emb j 1 : Fin 512) = j := by
    funext a; match a with
    | ⟨0, _⟩ => exact Fin.ext (by show _ % 512 = (j 0).val; rw [e0]; omega)
    | ⟨1, _⟩ => exact Fin.ext (by show 0 + 1 * (j 1).val = (j 1).val; omega)
  exact (congrArg (Y · _) h0).trans (congrArg (Y d) hj)

/-- A conjunction over the four devices, summand by summand. -/
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- Four slots owned are their scratch buffer owned. -/
theorem slots_join [∀ e, Nonempty (Val e)] (c : Dev nD) (b : Memref sig .tc .vmem S4x512x512 .bf16) (Y : Fin 4 → S1x512x512.Idx → Val .bf16) :
    (bigSep Finset.univ fun d : Fin 4 => owns (c : Thread nD τ) (slot b d) fullShare (Y d)) ⊢ (owns (c : Thread nD τ) b fullShare (glue Y) : sProp 𝕄) := by
  have h := owns_of_rects (Ix := Ix) (Name := Name) (U := U) (Lvl := Lvl) (c : Thread nD τ) b fullShare slotRect (fun _ _ => rfl)
    (fun t t' h => slot_disjoint t t' h) slot_cover (glue Y)
  simp only [glue_emb] at h
  exact h

/-- The result's staging buffer at some contents: its bands, each at some contents. -/
theorem bands_split (c : Dev nD) (b : Memref sig .tc .vmem S2048x512 .f32) (X : S2048x512.Idx → Val .f32) :
    (owns (c : Thread nD τ) b fullShare X : sProp 𝕄)
      ⊢ bigSep Finset.univ fun d : Fin 4 => iprop(∃ Y, owns (c : Thread nD τ) (band b d) fullShare Y) := by
  have h (d : Fin 4) : (owns (c : Thread nD τ) (band b d) fullShare (fun j => X ((bandRect d).emb j)) : sProp 𝕄)
      ⊢ iprop(∃ Y, owns (c : Thread nD τ) (band b d) fullShare Y) := by
    iintro H; iexists _; iexact H
  exact (owns_rects (c : Thread nD τ) b fullShare bandRect (fun _ _ => rfl) (fun t t' h => band_disjoint t t' h) band_cover X).trans
    (BI.bigSep_mono fun d _ => h d)

/-- Four bands owned are the result's staging buffer owned. -/
theorem bands_join [∀ e, Nonempty (Val e)] (c : Dev nD) (b : Memref sig .tc .vmem S2048x512 .f32) (Y : Fin 4 → S512x512.Idx → Val .f32) :
    (bigSep Finset.univ fun d : Fin 4 => owns (c : Thread nD τ) (band b d) fullShare (Y d)) ⊢ (owns (c : Thread nD τ) b fullShare (stack Y) : sProp 𝕄) := by
  have h := owns_of_rects (Ix := Ix) (Name := Name) (U := U) (Lvl := Lvl) (c : Thread nD τ) b fullShare bandRect (fun _ _ => rfl)
    (fun t t' h => band_disjoint t t' h) band_cover (stack Y)
  simp only [stack_emb] at h
  exact h

end Cert.AllToAll

end
-- ==== Proof.Schedule.lean ====
/-
# Schedule: the protocol of the exchange

Four devices, each with a barrier cell (the runtime's semaphore), four send cells and four receive cells. Each cell has
one round, whose duties are named by devices:

* the barrier cell of `c`: every other device `d` pays one unit, handing `c` slot `c` of `d`'s receive buffer — where
  `c`'s transfer to `d` is to land;
* the send cell `d` of `c` (`d ≠ c`): `c`'s transfer to `d` pays it when the source has been read, handing back `c`'s send slot `d`;
* the receive cell `s` of `c` (`s ≠ c`): `s`'s transfer to `c` pays it when it has landed, handing `c` its receive slot
  `s`, holding what `s` computed for `c`.

The send and receive cell of a device's own index have no duty. Here: the cells, the contents exchanged, the schedule and
its tables, what each device owes at launch, and the levels that order the waits.
-/
module

public import proofs.«01_k».proof.Proof.Slots

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange: rounds whose duties are named by devices; -/
abbrev UX : Type := URounds (GSem nD τ sig) (Dev nD)
/-- beside the pipeline's own. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Memrefs, semaphores, cells -/

abbrev xB : Memref sig .tc .vmem S512x2048 .bf16 := Memref.whole cc0_stg0_0
abbrev wB : Memref sig .tc .vmem S2048x2048 .bf16 := Memref.whole cc0_stg1_0
abbrev oB : Memref sig .tc .vmem S2048x512 .f32 := Memref.whole cc0_stg2_0
abbrev sB : Memref sig .tc .vmem S4x512x512 .bf16 := Memref.whole cc0_scratch0
abbrev rB : Memref sig .tc .vmem S4x512x512 .bf16 := Memref.whole cc0_scratch1

abbrev barS : Sem sig := (SemArray.scalar (sig.barrier 0 rfl) : Sems sig S_).sem
abbrev sendS (d : Fin 4) : DmaSem sig := entry cc0_scratch2 d
abbrev recvS (s : Fin 4) : DmaSem sig := entry cc0_scratch3 s

abbrev barCell (c : Dev nD) : GSem nD τ sig := ((c : Thread nD τ), .reg barS)
abbrev sendCell (c : Dev nD) (d : Fin 4) : GSem nD τ sig := ((c : Thread nD τ), .dma (sendS d))
abbrev recvCell (c : Dev nD) (s : Fin 4) : GSem nD τ sig := ((c : Thread nD τ), .dma (recvS s))

theorem send_ne_bar (d : Fin 4) : (SemLoc.dma (sendS d) : SemLoc sig) ≠ .reg barS := fun h => by cases h
theorem recv_ne_bar (d : Fin 4) : (SemLoc.dma (recvS d) : SemLoc sig) ≠ .reg barS := fun h => by cases h
theorem send_ne_recv : ∀ d s : Fin 4, (SemLoc.dma (sendS d) : SemLoc sig) ≠ .dma (recvS s) := by decide
theorem send_inj : ∀ d d' : Fin 4, (SemLoc.dma (sendS d) : SemLoc sig) = .dma (sendS d') → d = d' := by decide
theorem recv_inj : ∀ d d' : Fin 4, (SemLoc.dma (recvS d) : SemLoc sig) = .dma (recvS d') → d = d' := by decide

/-- The bytes' worth of credit one slot's transfer carries. -/
abbrev N : ℕ := (lane rB 0).view.dmaCredit
theorem N_pos : 0 < N := View.dmaCredit_pos _ (by decide)

/-! ## Contents -/

/-- Device `c`'s block of the first argument, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s copy of the second argument, as staged. -/
def wstg (c : Dev nD) : (cc0_stg1_0 : Ref sig .tc).ty.Contents (Elt F) :=
  (win0_1.blk (0 : Fin 1)).view.read (Elt F) ((s₀ m ρ).mem ((c : Thread nD τ).loc main_arg1))

/-- What device `c` computes for device `d`: columns `512 d` to `512 d + 511` of its product, as one slot. -/
def sent (c d : Dev nD) : S1x512x512.Idx → Elt F .bf16 := match d with
  | ⟨0, _⟩ => k0_pay2 (xstg m ρ c) (wstg m ρ c)
  | ⟨1, _⟩ => k0_pay3 (xstg m ρ c) (wstg m ρ c)
  | ⟨2, _⟩ => k0_pay4 (k0_pay1 (xstg m ρ c) (wstg m ρ c))
  | ⟨_ + 3, _⟩ => k0_pay5 (k0_pay1 (xstg m ρ c) (wstg m ρ c))

/-! ## The schedule -/

/-- What a unit from `d` on `c`'s barrier cell hands over: slot `c` of `d`'s receive buffer, at some contents. -/
def barPay (c d : Dev nD) : sProp 𝕄 := iprop(∃ Y, owns (d : Thread nD τ) (slot rB c) fullShare Y)
/-- What completion of `c`'s transfer to `d` hands back to `c`: its send slot `d`. -/
def sendPay (c d : Dev nD) : sProp 𝕄 := owns (c : Thread nD τ) (slot sB d) fullShare (sent m ρ c d)
/-- What the landing of `s`'s transfer hands `c`: its receive slot `s`, holding what `s` computed for `c`. -/
def recvPay (c s : Dev nD) : sProp 𝕄 := owns (c : Thread nD τ) (slot rB s) fullShare (sent m ρ s c)

/-- The one round of every cell. -/
def Rd : Rounds.Schedule (GSem nD τ sig) (Dev nD) 𝕄 where
  duties g r := Finset.univ.filter fun d => r = 0 ∧ g.1.2 = .tc ∧ d ≠ g.1.1 ∧ (g.2 = .reg barS ∨ g.2 = .dma (sendS d) ∨ g.2 = .dma (recvS d))
  unitless _ := False
  amount g _ _ := if g.2 = .reg barS then 1 else N
  payload g _ d :=
    if g.2 = .reg barS then barPay g.1.1 d
    else if g.2 = .dma (sendS d) then sendPay m ρ g.1.1 d
    else if g.2 = .dma (recvS d) then recvPay m ρ g.1.1 d
    else iprop(emp)
  amount_pos g _ _ _ := by
    by_cases h : g.2 = .reg barS
    · rw [if_pos h]; exact Nat.one_pos
    · rw [if_neg h]; exact N_pos

/-- What a duty hands over may stand in a cell's invariant. -/
instance Rd_payload_storable (g : GSem nD τ sig) (r : ℕ) (d : Dev nD) :
    BI.Storable (upEmb : UEmb _ 𝕄) ((Rd (F := F) m ρ).payload g r d) := by
  show BI.Storable upEmb (if g.2 = .reg barS then barPay g.1.1 d else if g.2 = .dma (sendS d) then sendPay m ρ g.1.1 d
    else if g.2 = .dma (recvS d) then recvPay m ρ g.1.1 d else iprop(emp))
  unfold barPay sendPay recvPay
  (repeat' split) <;> infer_instance

section Tables

variable (c d : Dev nD)

theorem duties_bar : (Rd (F := F) m ρ).duties (barCell c) 0 = Finset.univ.erase c := by
  dsimp only [Rd]; ext e
  simp only [Finset.mem_filter, Finset.mem_erase, Finset.mem_univ, true_and, true_or, and_true]
theorem duties_send (h : d ≠ c) : (Rd (F := F) m ρ).duties (sendCell c d) 0 = {d} := by
  dsimp only [Rd]; ext e
  simp only [Finset.mem_filter, Finset.mem_singleton, Finset.mem_univ, true_and]
  constructor
  · rintro ⟨-, h' | h' | h'⟩
    · exact absurd h' (send_ne_bar d)
    · exact (send_inj d e h').symm
    · exact absurd h' (send_ne_recv d e)
  · rintro rfl; exact ⟨h, .inr (.inl rfl)⟩
theorem duties_recv (h : d ≠ c) : (Rd (F := F) m ρ).duties (recvCell c d) 0 = {d} := by
  dsimp only [Rd]; ext e
  simp only [Finset.mem_filter, Finset.mem_singleton, Finset.mem_univ, true_and]
  constructor
  · rintro ⟨-, h' | h' | h'⟩
    · exact absurd h' (recv_ne_bar d)
    · exact absurd h'.symm (send_ne_recv e d)
    · exact (recv_inj d e h').symm
  · rintro rfl; exact ⟨h, .inr (.inr rfl)⟩
/-- A device's own send cell and receive cell have no duty. -/
theorem duties_send_self : ∀ r, 0 ≤ r → (Rd (F := F) m ρ).duties (sendCell c c) r = ∅ := fun r _ => by
  dsimp only [Rd]
  refine Finset.filter_eq_empty_iff.mpr fun e _ h => ?_
  rcases h.2.2.2 with h' | h' | h'
  · exact send_ne_bar c h'
  · exact h.2.2.1 (send_inj c e h').symm
  · exact send_ne_recv c e h'
theorem duties_recv_self : ∀ r, 0 ≤ r → (Rd (F := F) m ρ).duties (recvCell c c) r = ∅ := fun r _ => by
  dsimp only [Rd]
  refine Finset.filter_eq_empty_iff.mpr fun e _ h => ?_
  rcases h.2.2.2 with h' | h' | h'
  · exact recv_ne_bar c h'
  · exact send_ne_recv e c h'.symm
  · exact h.2.2.1 (recv_inj c e h').symm
/-- There is no second round. -/
theorem duties_later (g : GSem nD τ sig) : ∀ r, 1 ≤ r → (Rd (F := F) m ρ).duties g r = ∅ := fun r hr => by
  dsimp only [Rd]
  exact Finset.filter_eq_empty_iff.mpr fun e _ h => by omega

theorem amount_bar (e : Dev nD) : (Rd (F := F) m ρ).amount (barCell c) 0 e = 1 := by dsimp only [Rd]; exact if_pos rfl
theorem amount_send (e : Dev nD) : (Rd (F := F) m ρ).amount (sendCell c d) 0 e = N := by dsimp only [Rd]; exact if_neg (send_ne_bar d)
theorem amount_recv (e : Dev nD) : (Rd (F := F) m ρ).amount (recvCell c d) 0 e = N := by dsimp only [Rd]; exact if_neg (recv_ne_bar d)

theorem expect_bar : (Rd (F := F) m ρ).expect (barCell c) 0 = 3 := by
  unfold Schedule.expect Schedule.amountOf
  rw [duties_bar, Finset.sum_congr rfl fun e _ => amount_bar m ρ c e, Finset.sum_const, Finset.card_erase_of_mem (Finset.mem_univ _)]
  rfl
theorem expect_send (h : d ≠ c) : (Rd (F := F) m ρ).expect (sendCell c d) 0 = N := by
  unfold Schedule.expect Schedule.amountOf; rw [duties_send m ρ c d h, Finset.sum_singleton, amount_send]
theorem expect_recv (h : d ≠ c) : (Rd (F := F) m ρ).expect (recvCell c d) 0 = N := by
  unfold Schedule.expect Schedule.amountOf; rw [duties_recv m ρ c d h, Finset.sum_singleton, amount_recv]

theorem payload_bar : (Rd (F := F) m ρ).payload (barCell c) 0 d = barPay c d := by dsimp only [Rd]; exact if_pos rfl
theorem payload_send : (Rd (F := F) m ρ).payload (sendCell c d) 0 d = sendPay m ρ c d := by
  dsimp only [Rd]; rw [if_neg (send_ne_bar d), if_pos rfl]
theorem payload_recv : (Rd (F := F) m ρ).payload (recvCell c d) 0 d = recvPay m ρ c d := by
  dsimp only [Rd]; rw [if_neg (recv_ne_bar d), if_neg (send_ne_recv d d).symm, if_pos rfl]

/-- All that the barrier cell's round hands `c`; -/
theorem rest_bar : bigSep ((Rd (F := F) m ρ).duties (barCell c) 0 \ ∅) (fun e => (Rd (F := F) m ρ).payload (barCell c) 0 e)
    = bigSep (Finset.univ.erase c) fun e => barPay c e := by
  rw [Finset.sdiff_empty, duties_bar]
  exact bigSep_congr fun e _ => payload_bar m ρ c e
/-- a send cell's; -/
theorem rest_send (h : d ≠ c) : bigSep ((Rd (F := F) m ρ).duties (sendCell c d) 0 \ ∅) (fun e => (Rd (F := F) m ρ).payload (sendCell c d) 0 e)
    = sendPay m ρ c d := by
  rw [Finset.sdiff_empty, duties_send m ρ c d h, bigSep_singleton, payload_send]
/-- a receive cell's. -/
theorem rest_recv (h : d ≠ c) : bigSep ((Rd (F := F) m ρ).duties (recvCell c d) 0 \ ∅) (fun e => (Rd (F := F) m ρ).payload (recvCell c d) 0 e)
    = recvPay m ρ c d := by
  rw [Finset.sdiff_empty, duties_recv m ρ c d h, bigSep_singleton, payload_recv]

end Tables

/-! ## What each device owes at launch -/

/-- The device `k` places after `c`. -/
def ahead (k : Fin 4) (c : Dev nD) : Dev nD := c + k

/-- The credit `c`'s transfer to `d` is to bring `d`'s receive cell; nothing if `d` is `c`. -/
def xferTally (c d : Dev nD) : CellTallies nD τ sig Unit := if d = c then 0 else tallyAt (recvCell d c) () N

/-- What `c` owes before its transfers to the devices from `k` on, -/
def owed (c : Dev nD) : ℕ → CellTallies nD τ sig Unit
  | 0 => xferTally c 3 + xferTally c 2 + xferTally c 1 + xferTally c 0
  | 1 => xferTally c 3 + xferTally c 2 + xferTally c 1
  | 2 => xferTally c 3 + xferTally c 2
  | 3 => xferTally c 3
  | _ => 0
/-- and before its signals: those and one unit to each other device's barrier cell. -/
def O₂ (c : Dev nD) : CellTallies nD τ sig Unit := owed c 0 + tallyAt (barCell (ahead 3 c)) () 1
def O₁ (c : Dev nD) : CellTallies nD τ sig Unit := O₂ c + tallyAt (barCell (ahead 2 c)) () 1
def O₀ (c : Dev nD) : CellTallies nD τ sig Unit := O₁ c + tallyAt (barCell (ahead 1 c)) () 1

/-- The index of every tally: the one there is, on the TensorCores. -/
def L (g : GSem nD τ sig) : Finset Unit := if g.1.2 = .tc then {()} else ∅
/-- Barrier cells at level 1, receive cells at 2, the others at 0. -/
def lv (g : GSem nD τ sig) (_ : Unit) : ℕ := if g.2 = .reg barS then 1 else if ∃ s, g.2 = .dma (recvS s) then 2 else 0

theorem L_of_ne (g : GSem nD τ sig) (h : g.1.2 ≠ .tc) : L g = ∅ := if_neg h
theorem mem_L_tc (c : Dev nD) (sm : SemLoc sig) : () ∈ L ((c : Thread nD τ), sm) := by
  rw [L, if_pos rfl]; exact Finset.mem_singleton_self _

theorem lv_bar (c : Dev nD) : lv (barCell c) () = 1 := if_pos rfl
theorem lv_recv (c s : Dev nD) : lv (recvCell c s) () = 2 := by
  unfold lv; rw [if_neg (recv_ne_bar s), if_pos ⟨s, rfl⟩]
theorem lv_other (c : Dev nD) (q : DmaSem sig) (h : ∀ s, SemLoc.dma q ≠ .dma (recvS s)) : lv ((c : Thread nD τ), .dma q) () = 0 := by
  unfold lv; rw [if_neg (fun h => by cases h), if_neg (fun ⟨s, hs⟩ => h s hs)]

theorem tallyAt_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem xferTally_pos {c d : Dev nD} {g : GSem nD τ sig} {u : Unit} (h : 0 < xferTally c d g u) : g = recvCell d c := by
  unfold xferTally at h
  split at h
  · exact absurd h (Nat.lt_irrefl 0)
  · exact tallyAt_pos h

theorem add_pos' {A B : CellTallies nD τ sig Unit} {g : GSem nD τ sig} {u : Unit} (h : 0 < (A + B) g u) : 0 < A g u ∨ 0 < B g u := by
  rw [Pi.add_apply, Finsupp.add_apply] at h; omega

/-- A device owes receive cells only, its signals done; -/
theorem owed_pos {c : Dev nD} {g : GSem nD τ sig} {u : Unit} (h : 0 < owed c 0 g u) : ∃ d, g = recvCell d c := by
  rcases add_pos' h with h | h
  · rcases add_pos' h with h | h
    · rcases add_pos' h with h | h
      · exact ⟨_, xferTally_pos h⟩
      · exact ⟨_, xferTally_pos h⟩
    · exact ⟨_, xferTally_pos h⟩
  · exact ⟨_, xferTally_pos h⟩
/-- before them barrier cells too. -/
theorem O₀_pos {c : Dev nD} {g : GSem nD τ sig} {u : Unit} (h : 0 < O₀ c g u) : (∃ d s, g = recvCell d s) ∨ ∃ d, g = barCell d := by
  rcases add_pos' h with h | h
  · rcases add_pos' h with h | h
    · rcases add_pos' h with h | h
      · obtain ⟨d, hd⟩ := owed_pos h; exact .inl ⟨d, c, hd⟩
      · exact .inr ⟨_, tallyAt_pos h⟩
    · exact .inr ⟨_, tallyAt_pos h⟩
  · exact .inr ⟨_, tallyAt_pos h⟩

/-! ## The waits -/

/-- A device may wait at its barrier cell owing its transfers: their cells are above it. -/
theorem mayWait_bar (c : Dev nD) : (levAts L lv : sProp 𝕄) ⊢ MayWait (c : Thread nD τ) (.reg barS) () (owed c 0) :=
  MayOwe.of_cut (L := L) (lev := lv) 1 (fun p hp => by rw [Finset.mem_singleton.mp hp]; exact mem_L_tc _ _)
    (fun g u hg => by obtain ⟨d, rfl⟩ := owed_pos hg; exact mem_L_tc _ _)
    (fun p hp => by rw [Finset.mem_singleton.mp hp]; exact (lv_bar c).le)
    (fun g u hg => by obtain ⟨d, rfl⟩ := owed_pos hg; rw [lv_recv]; decide)

/-- A device may wait for its staging transfers, owing what it owes at launch or nothing. -/
theorem mayWait_stage (c : Dev nD) (q : DmaSem sig) (hq : ∀ s, SemLoc.dma q ≠ .dma (recvS s)) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L_tc _ _)
      (fun g u hg => by rcases O₀_pos hg with ⟨d, s, rfl⟩ | ⟨d, rfl⟩ <;> exact mem_L_tc _ _)
      (fun p hp => by rw [Finset.mem_singleton.mp hp]; exact (lv_other c q hq).le)
      (fun g u hg => by
        rcases O₀_pos hg with ⟨d, s, rfl⟩ | ⟨d, rfl⟩
        · rw [lv_recv]; decide
        · rw [lv_bar]; decide)
  · rw [MayWait_zero]; iintro -; iempintro

end Cert.AllToAll

end
-- ==== Proof.Steps.lean ====
/-
# Steps: the exchange's operations under the protocol

One rule for each operation of the kernel that touches another device or a semaphore: a unit to another device's barrier
cell, a transfer to a device (skipped if that device is the sender), a wait on a send or receive cell (skipped if the
cell is the device's own index). Each is stated once, for any device and any partner.
-/
module

public import proofs.«01_k».proof.Proof.Schedule

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## The cells' records -/

/-- A device's send cells and receive cells, -/
abbrev Own : Type := Fin 4 ⊕ Fin 4
/-- and all its cells: the barrier's first. -/
abbrev Key : Type := Unit ⊕ Own

def osem : Own → SemLoc sig
  | .inl d => .dma (sendS d)
  | .inr s => .dma (recvS s)
def csem : Key → SemLoc sig
  | .inl _ => .reg barS
  | .inr k => osem k
def kcell (ck : Dev nD × Key) : GSem nD τ sig := ((ck.1 : Thread nD τ), csem ck.2)

variable (K : Dev nD × Key → ℕ)

/-- Every cell's invariant, and that every cell is at its round 0. -/
def recs : sProp 𝕄 :=
  bigSep Finset.univ fun ck => iprop(cellInv EX (Rd m ρ) (K ck) (kcell ck) ∗ reached EX (kcell ck) 0)

instance recs_persistent : BI.Persistent (recs m ρ K) := by unfold recs; infer_instance

theorem recs_at (ck : Dev nD × Key) :
    recs m ρ K ⊢ iprop(cellInv EX (Rd m ρ) (K ck) (kcell ck) ∗ reached EX (kcell ck) 0) :=
  bigSep_elim (Finset.mem_univ ck)

theorem recs_bar (c : Dev nD) : recs m ρ K ⊢ iprop(cellInv EX (Rd m ρ) (K (c, .inl ())) (barCell c) ∗ reached EX (barCell c) 0) :=
  recs_at m ρ K (c, .inl ())
theorem recs_send (c : Dev nD) (d : Fin 4) :
    recs m ρ K ⊢ iprop(cellInv EX (Rd m ρ) (K (c, .inr (.inl d))) (sendCell c d) ∗ reached EX (sendCell c d) 0) :=
  recs_at m ρ K (c, .inr (.inl d))
theorem recs_recv (c : Dev nD) (s : Fin 4) :
    recs m ρ K ⊢ iprop(cellInv EX (Rd m ρ) (K (c, .inr (.inr s))) (recvCell c s) ∗ reached EX (recvCell c s) 0) :=
  recs_at m ρ K (c, .inr (.inr s))

/-! ## Conjunctions over the devices with one set apart -/

/-- All devices' summands, where `c`'s is `A` and the others' are `B`. -/
theorem pick {M : Type} [URA M] (c : Fin 4) (A : sProp M) (B : Fin 4 → sProp M) :
    bigSep Finset.univ (fun d => if d = c then A else B d) = iprop(A ∗ bigSep (Finset.univ.erase c) B) := by
  rw [bigSep_univ_at _ c, if_pos rfl]
  congr 1
  exact bigSep_congr fun d hd => if_neg (Finset.ne_of_mem_erase hd)

/-! ## A branch -/

/-- A conditional either of whose branches leads from `P` to `R`. -/
theorem wp_branch {Λ : Labels} {defs : Defs nD τ sig (Elt F) Λ} (c : Dev nD) {p : Prop} [Decidable p]
    {α : Type} {t : p → Prog (TpuEff nD τ sig (Elt F) Λ .tc) α} {e : ¬p → Prog (TpuEff nD τ sig (Elt F) Λ .tc) α} {P : sProp 𝕄} {R : α → sProp 𝕄}
    (ht : ∀ h : p, P ⊢ wp frame (wpE defs 𝒱₀ (c : Thread nD τ) none) Set.univ (t h) R)
    (he : ∀ h : ¬p, P ⊢ wp frame (wpE defs 𝒱₀ (c : Thread nD τ) none) Set.univ (e h) R) :
    P ⊢ wp frame (wpE defs 𝒱₀ (c : Thread nD τ) none) Set.univ (dite p t e) R := by
  by_cases h : p
  · rw [dif_pos h]; exact ht h
  · rw [dif_neg h]; exact he h

/-! ## Units to the barrier cells -/

/-- A device owing `O`, whatever it has waited for. -/
def owing (c : Dev nD) (O : CellTallies nD τ sig Unit) : sProp 𝕄 := iprop(∃ W, owes (c : Thread nD τ) O W)

theorem ahead_ne (k : Fin 4) (hk : k ≠ 0) (c : Dev nD) : c ≠ ahead k c := by
  revert k c; decide

/-- A unit to the barrier cell `k` places ahead: it takes along slot `ahead k c` of the device's receive buffer. -/
theorem signal_step (c : Dev nD) (k : Fin 4) (hk : k ≠ 0) {O : CellTallies nD τ sig Unit} {n' : ℕ} (hn' : n' = 1)
    {α : Type} {Q : α → sProp 𝕄} {kont : PUnit → Prog (TpuEff nD τ sig (Elt F) Λ₀ .tc) α} :
    iprop(recs m ρ K ∗ owing c (O + tallyAt (barCell (ahead k c)) () 1) ∗ dutyTok EX (barCell (ahead k c)) 0 c
        ∗ ∃ Y, owns (c : Thread nD τ) (slot rB (ahead k c)) fullShare Y)
      ⊢ iprop((owing c O -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (ahead k c : Thread nD τ) barS n') kont) Q) := by
  subst hn'
  unfold owing
  iintro ⟨#HR, ⟨%W, HO⟩, Ht, HY⟩ Hk
  ihave HR' := (recs_bar m ρ K (ahead k c)) $$ HR
  icases HR' with ⟨HI, Hr⟩
  iapply (Rounds.wp_signal 𝒱₀ EX (Rd m ρ) (c : Thread nD τ) none (dst := (ahead k c : Thread nD τ)) (κ := K (ahead k c, .inl ()))
      (d := c) (by rw [duties_bar]; exact Finset.mem_erase.mpr ⟨ahead_ne k hk c, Finset.mem_univ _⟩) (amount_bar m ρ (ahead k c) c) () O rfl) $$ [HI HO Ht HY Hr]
  · isplitl [HI]; · iexact HI
    isplitl [HO]; · iexact HO
    isplitl [Ht]; · iexact Ht
    isplitl [HY]
    · rw [payload_bar]; unfold barPay; iexact HY
    iexact Hr
  iintro HO
  iapply Hk; iexists W; iexact HO

/-! ## Transfers -/

theorem owed_succ (c : Dev nD) (d : Fin 4) : owed c d.val = owed c (d.val + 1) + xferTally c d := by
  match d with
  | ⟨0, _⟩ => rfl
  | ⟨1, _⟩ => rfl
  | ⟨2, _⟩ => rfl
  | ⟨3, _⟩ => exact (zero_add _).symm

/-- What `c` needs for its transfer to `d` besides its send slot: where it lands, and the right to pay the two cells. -/
def pend (c d : Dev nD) : sProp 𝕄 :=
  if d = c then iprop(emp) else iprop(barPay c d ∗ dutyTok EX (sendCell c d) 0 d ∗ dutyTok EX (recvCell d c) 0 c)
/-- What `c` has of its send slot `d` until the end: the slot itself if no transfer took it, else the credit to wait for it. -/
def held (c d : Dev nD) : sProp 𝕄 :=
  if d = c then sendPay m ρ c c else cred (tallyAt (sendCell c d) () N)
/-- What `c` has of its receive slot `s`: filled by `c` itself, or the credit to wait for it. -/
def due (c s : Dev nD) : sProp 𝕄 :=
  if s = c then recvPay m ρ c c else cred (tallyAt (recvCell c s) () N)

/-- Every slot's transfer carries the same credit. -/
theorem lane_credit (b : Memref sig .tc .vmem S4x512x512 .bf16) (d : Fin 4) : (lane b d).view.dmaCredit = N := rfl

/-- A transfer that happens. -/
theorem send_go (c d : Dev nD) (h : d ≠ c) {hsc : (lane rB c).view.ref.isScScratch = false}
    {hsrc : (lane sB d).view.WordExact} {hdst : (lane rB c).view.WordExact}
    {hsem : DmaTarget.Typed .vmem (.dma (recvS c)) (.remote (Dev.tc d : Thread nD τ) (lane rB c) (.dma (sendS d)) hsc)}
    {α : Type} {Q : α → sProp 𝕄} {kont : PUnit → Prog (TpuEff nD τ sig (Elt F) Λ₀ .tc) α} {O : CellTallies nD τ sig Unit} {W : Waits sig Unit} :
    iprop(recs m ρ K ∗ sendPay m ρ c d ∗ (barPay c d ∗ dutyTok EX (sendCell c d) 0 d ∗ dutyTok EX (recvCell d c) 0 c)
        ∗ owes (c : Thread nD τ) (O + tallyAt (recvCell d c) () N) W)
      ⊢ iprop(((cred (tallyAt (sendCell c d) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (lane sB d) (.remote (Dev.tc d : Thread nD τ) (lane rB c) (.dma (sendS d)) hsc) (.dma (recvS c)) hsrc hdst hsem) kont) Q) := by
  unfold sendPay barPay
  unfold owns
  iintro ⟨#HR, ⟨%fs, %hfs, HS⟩, ⟨⟨%Y, %fd, %hfd, HD⟩, Ht1, Ht2⟩, HO⟩
  ihave HR1 := (recs_send m ρ K c d) $$ HR
  ihave HR2 := (recs_recv m ρ K d c) $$ HR
  icases HR1 with ⟨HI1, Hr1⟩
  icases HR2 with ⟨HI2, Hr2⟩
  iapply (Rounds.wp_send_pointsTo 𝒱₀ EX (Rd m ρ) (c : Thread nD τ) none (κ₁ := K (c, .inr (.inl d))) (κ₂ := K (d, .inr (.inr c)))
    (r₁ := 0) (r₂ := 0) (d₁ := d) (d₂ := c) (fs := fs) (fd := fd) (q := fullShare)
    (by rw [duties_send m ρ c d h]; exact Finset.mem_singleton_self _) (by rw [duties_recv m ρ d c h.symm]; exact Finset.mem_singleton_self _)
    () () N (by exact lane_credit rB c) (amount_send m ρ c d d) (amount_recv m ρ d c c) O rfl (W := W)
    (by
      rw [payload_send, lane_set]; unfold sendPay owns
      iintro H; iexists fs; isplitr; · ipureintro; exact hfs
      iexact H)
    (by rw [payload_recv]; unfold recvPay; exact owns_landed d sB rB d c fs fd hfs))
  isplitl [HI1]; · iexact HI1
  isplitl [HI2]; · iexact HI2
  isplitl [HS]; · rw [lane_set]; iexact HS
  isplitl [HD]; · rw [lane_set]; iexact HD
  isplitl [HO]; · iexact HO
  isplitl [Ht1]; · iexact Ht1
  isplitl [Hr1]; · iexact Hr1
  isplitl [Ht2]; · iexact Ht2
  iexact Hr2

/-- A transfer to `d`, made unless `d` is the sender. The target's number and the offsets are given by words equal to them. -/
theorem send_step (c d : Dev nD) {p : Prop} [Decidable p] (hp : p ↔ d ≠ c) (n : p → Dev nD) (hn : ∀ h, n h = d)
    (off : p → Fin 1 → ℕ) (hoff : ∀ h, off h = ![c.val]) (off' : p → Fin 3 → ℕ) (hoff' : ∀ h, off' h = ![c.val, 0, 0])
    {inb : ∀ h a, off h a + S1.size a ≤ S4.size a} {inb' : ∀ h a, off' h a + S1x512x512.size a ≤ S4x512x512.size a}
    {hsc : ∀ h, ((rB.slice (Rect.unit (s := S4x512x512) (off' h) S1x512x512.size (inb' h)) (fun _ => rfl)).squeeze S512x512
      Facts₀.squeezes_S1x512x512_S512x512).view.ref.isScScratch = false}
    {hsrc : ∀ h : p, (lane sB d).view.WordExact}
    {hdst : ∀ h, ((rB.slice (Rect.unit (s := S4x512x512) (off' h) S1x512x512.size (inb' h)) (fun _ => rfl)).squeeze S512x512
      Facts₀.squeezes_S1x512x512_S512x512).view.WordExact}
    {hsem : ∀ h, DmaTarget.Typed .vmem
      (.dma ((cc0_scratch3.slice (Rect.unit (s := S4) (off h) S1.size (inb h))).squeeze S_ Facts₀.squeezes_S1_S_).sem)
      (.remote (Dev.tc (n h) : Thread nD τ) ((rB.slice (Rect.unit (s := S4x512x512) (off' h) S1x512x512.size (inb' h)) (fun _ => rfl)).squeeze S512x512
        Facts₀.squeezes_S1x512x512_S512x512) (.dma (sendS d)) (hsc h))}
    {α : Type} {kont : Prog (TpuEff nD τ sig (Elt F) Λ₀ .tc) α} {Q : α → sProp 𝕄} :
    iprop(recs m ρ K ∗ sendPay m ρ c d ∗ pend c d ∗ owing c (owed c d.val))
      ⊢ iprop(((held m ρ c d ∗ owing c (owed c (d.val + 1))) -∗ wp frame (wpE (defs₀ (F := F)) 𝒱₀ (c : Thread nD τ) none) Set.univ kont Q)
          -∗ wp frame (wpE (defs₀ (F := F)) 𝒱₀ (c : Thread nD τ) none) Set.univ
              (if h : p then
                .op (.enqueueDma (lane sB d)
                  (.remote (Dev.tc (n h) : Thread nD τ) ((rB.slice (Rect.unit (s := S4x512x512) (off' h) S1x512x512.size (inb' h)) (fun _ => rfl)).squeeze S512x512
                    Facts₀.squeezes_S1x512x512_S512x512) (.dma (sendS d)) (hsc h))
                  (.dma ((cc0_scratch3.slice (Rect.unit (s := S4) (off h) S1.size (inb h))).squeeze S_ Facts₀.squeezes_S1_S_).sem)
                  (hsrc h) (hdst h) (hsem h)) (fun _ => kont)
              else kont) Q) := by
  obtain rfl : n = fun _ => d := funext hn
  obtain rfl : off = fun _ => ![c.val] := funext hoff
  obtain rfl : off' = fun _ => ![c.val, 0, 0] := funext hoff'
  refine BIClass.wand_intro (wp_branch c (fun h => ?_) fun h => ?_)
  · have hd := hp.mp h
    rw [owed_succ]; unfold pend held xferTally
    rw [if_neg hd, if_neg hd, if_neg hd]
    unfold owing
    iintro ⟨⟨#HR, HS, HP, ⟨%W, HO⟩⟩, Hk⟩
    iapply (send_go m ρ K c d hd) $$ [HS HP HO]
    · isplitr; · iexact HR
      isplitl [HS]; · iexact HS
      isplitl [HP]; · iexact HP
      iexact HO
    iintro ⟨HC, HO⟩
    iapply Hk
    isplitl [HC]; · iexact HC
    iexists W; iexact HO
  · have hd : d = c := not_not.mp fun h' => h (hp.mpr h')
    subst hd
    rw [owed_succ]; unfold pend held xferTally
    rw [if_pos rfl, if_pos rfl, if_pos rfl, add_zero]
    iintro ⟨⟨-, HS, -, HO⟩, Hk⟩
    iapply Hk
    isplitl [HS] <;> iassumption

/-! ## Waits on send and receive cells -/

/-- A cell no more to be paid: its owner stands at a round with no duty from then on. -/
def done (g : GSem nD τ sig) : sProp 𝕄 :=
  iprop(∃ R : ℕ, ⌜∀ r, R ≤ r → (Rd (F := F) m ρ).duties g r = ∅⌝ ∗ atPos EX g R ∅ 0)

/-- A wait on the cell of index `d` of an array of semaphores, made unless `d` is the device itself: it leaves what the
    cell's round hands over, `X`, which the device has already if `d` is itself. -/
theorem wait_step (c : Dev nD) (a : DmaSems sig S4) (b : Memref sig .tc .vmem S4x512x512 .bf16) (d : Dev nD) (κ : ℕ) (X : sProp 𝕄)
    {p : Prop} [Decidable p] (hp : p ↔ d ≠ c)
    (he : d ≠ c → (Rd (F := F) m ρ).expect ((c : Thread nD τ), .dma (entry a d)) 0 = N)
    (hX : d ≠ c → bigSep ((Rd (F := F) m ρ).duties ((c : Thread nD τ), .dma (entry a d)) 0 \ ∅)
      (fun e => (Rd (F := F) m ρ).payload ((c : Thread nD τ), .dma (entry a d)) 0 e) = X)
    (h0 : d = c → ∀ r, 0 ≤ r → (Rd (F := F) m ρ).duties ((c : Thread nD τ), .dma (entry a d)) r = ∅)
    {src : p → Memref sig .tc .vmem S512x512 .bf16} {hsrc : ∀ h, (src h).view.WordExact} {hdst : p → (lane b d).view.WordExact}
    {α : Type} {kont : Prog (TpuEff nD τ sig (Elt F) Λ₀ .tc) α} {Q : α → sProp 𝕄} :
    iprop(cellInv EX (Rd m ρ) κ ((c : Thread nD τ), .dma (entry a d)) ∗ owing c 0 ∗ atPos EX ((c : Thread nD τ), .dma (entry a d)) 0 ∅ 0
        ∗ (if d = c then X else cred (tallyAt ((c : Thread nD τ), .dma (entry a d)) () N)))
      ⊢ iprop(((owing c 0 ∗ done m ρ ((c : Thread nD τ), .dma (entry a d)) ∗ X) -∗ wp frame (wpE (defs₀ (F := F)) 𝒱₀ (c : Thread nD τ) none) Set.univ kont Q)
          -∗ wp frame (wpE (defs₀ (F := F)) 𝒱₀ (c : Thread nD τ) none) Set.univ
              (if h : p then .op (.waitDma2 (entry a d) (src h) (lane b d) (hsrc h) (hdst h)) (fun _ => kont) else kont) Q) := by
  refine BIClass.wand_intro (wp_branch c (fun h => ?_) fun h => ?_)
  · have hd := hp.mp h
    rw [if_neg hd]
    unfold owing
    iintro ⟨⟨HI, ⟨%W, HO⟩, Hat, Hc⟩, Hk⟩
    iapply (Rounds.wp_wait_rest_token 𝒱₀ EX (Rd m ρ) (c : Thread nD τ) none (κ := κ)
        (wpE_waitDma2_eq 𝒱₀ (c : Thread nD τ) none Set.univ) (Set.mem_univ _) () (O := 0) (W := W) (R := 0) (m := 0) (T := ∅)
        (by rw [Nat.zero_add, he hd])) $$ [HI Hc HO Hat]
    · isplitl [HI]; · iexact HI
      isplitl [Hc]; · iexact Hc
      isplitl [HO]; · iexact HO
      isplitr; · rw [MayWait_zero]; iempintro
      iexact Hat
    iintro ⟨HO, Hat, -, Hpay⟩
    iapply Hk
    isplitl [HO]; · iexists _; iexact HO
    isplitl [Hat]
    · unfold done; iexists 1; isplitr; · ipureintro; exact duties_later m ρ _
      iexact Hat
    · iapply (Entails.of_eq (hX hd)); iexact Hpay
  · have hd : d = c := not_not.mp fun h' => h (hp.mpr h')
    rw [if_pos hd]
    iintro ⟨⟨-, HO, Hat, HX⟩, Hk⟩
    iapply Hk
    isplitl [HO]; · iexact HO
    isplitl [Hat]
    · unfold done; iexists 0; isplitr; · ipureintro; exact h0 hd
      iexact Hat
    · iexact HX

/-- A wait for the arrival of what `s` computed for `c`. -/
theorem recv_step (c s : Dev nD) {p : Prop} [Decidable p] (hp : p ↔ s ≠ c)
    {src : p → Memref sig .tc .vmem S512x512 .bf16} {hsrc : ∀ h, (src h).view.WordExact} {hdst : p → (lane rB s).view.WordExact}
    {α : Type} {kont : Prog (TpuEff nD τ sig (Elt F) Λ₀ .tc) α} {Q : α → sProp 𝕄} :
    iprop(recs m ρ K ∗ owing c 0 ∗ atPos EX (recvCell c s) 0 ∅ 0 ∗ due m ρ c s)
      ⊢ iprop(((owing c 0 ∗ done m ρ (recvCell c s) ∗ recvPay m ρ c s) -∗ wp frame (wpE (defs₀ (F := F)) 𝒱₀ (c : Thread nD τ) none) Set.univ kont Q)
          -∗ wp frame (wpE (defs₀ (F := F)) 𝒱₀ (c : Thread nD τ) none) Set.univ
              (if h : p then .op (.waitDma2 (recvS s) (src h) (lane rB s) (hsrc h) (hdst h)) (fun _ => kont) else kont) Q) := by
  have e : due m ρ c s = if s = c then recvPay m ρ c s else cred (tallyAt (recvCell c s) () N) := by
    unfold due; split
    · next h => rw [h]
    · rfl
  rw [e]
  iintro ⟨#HR, H⟩
  ihave HR' := (recs_recv m ρ K c s) $$ HR
  icases HR' with ⟨HI, -⟩
  iapply (wait_step m ρ c cc0_scratch3 rB s (K (c, .inr (.inr s))) (recvPay m ρ c s) hp (expect_recv m ρ c s) (rest_recv m ρ c s)
    (fun h => by subst h; exact duties_recv_self m ρ s))
  isplitl [HI]; · iexact HI
  iexact H

/-- A wait for the source of `c`'s transfer to `d` to have been read. -/
theorem sent_step (c d : Dev nD) {p : Prop} [Decidable p] (hp : p ↔ d ≠ c)
    {src : p → Memref sig .tc .vmem S512x512 .bf16} {hsrc : ∀ h, (src h).view.WordExact} {hdst : p → (lane sB d).view.WordExact}
    {α : Type} {kont : Prog (TpuEff nD τ sig (Elt F) Λ₀ .tc) α} {Q : α → sProp 𝕄} :
    iprop(recs m ρ K ∗ owing c 0 ∗ atPos EX (sendCell c d) 0 ∅ 0 ∗ held m ρ c d)
      ⊢ iprop(((owing c 0 ∗ done m ρ (sendCell c d) ∗ sendPay m ρ c d) -∗ wp frame (wpE (defs₀ (F := F)) 𝒱₀ (c : Thread nD τ) none) Set.univ kont Q)
          -∗ wp frame (wpE (defs₀ (F := F)) 𝒱₀ (c : Thread nD τ) none) Set.univ
              (if h : p then .op (.waitDma2 (sendS d) (src h) (lane sB d) (hsrc h) (hdst h)) (fun _ => kont) else kont) Q) := by
  have e : held m ρ c d = if d = c then sendPay m ρ c d else cred (tallyAt (sendCell c d) () N) := by
    unfold held; split
    · next h => rw [h]
    · rfl
  rw [e]
  iintro ⟨#HR, H⟩
  ihave HR' := (recs_send m ρ K c d) $$ HR
  icases HR' with ⟨HI, -⟩
  iapply (wait_step m ρ c cc0_scratch2 sB d (K (c, .inr (.inl d))) (sendPay m ρ c d) hp (expect_send m ρ c d) (rest_send m ρ c d)
    (fun h => by subst h; exact duties_send_self m ρ d))
  isplitl [HI]; · iexact HI
  iexact H

/-! ## Closing the cells -/

/-- A cell no more to be paid closes: its counter is at zero. -/
theorem close_done (c : Dev nD) (k : Key) : iprop(recs m ρ K ∗ done m ρ (kcell (c, k))) ⊢ iprop(|={Set.univ}=> semVal (kcell (c, k)) 0) := by
  unfold done
  iintro ⟨#HR, %R, %hR, Hat⟩
  ihave HR' := (recs_at m ρ K (c, k)) $$ HR
  icases HR' with ⟨HI, -⟩
  iapply (Rounds.cell_close EX (Rd m ρ) (Set.mem_univ (K (c, k))) (fun h => h) hR)
  isplitl [HI] <;> iassumption

end Cert.AllToAll

end
-- ==== Proof.Body.lean ====
/-
# Body: one device's kernel, run from its staged blocks to its result

The kernel on device `c`, part by part: its units to the other devices' barrier cells; the wait for theirs, the product
and the transfers; the waits for the arrivals and the four bands of the result; the waits for its own transfers.
-/
module

public import proofs.«01_k».proof.Proof.Steps
public import Idealize.ShloMosaic.Lib.Pipeline.Value

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The words the kernel computes -/

theorem dev1_eq (c : Dev nD) : (⟨k0_dev1 c, Facts₀.k0_dev1_lt c⟩ : Dev nD) = ahead 1 c := by revert c; decide
theorem dev2_eq (c : Dev nD) : (⟨k0_dev2 c, Facts₀.k0_dev2_lt c⟩ : Dev nD) = ahead 2 c := by revert c; decide
theorem dev3_eq (c : Dev nD) : (⟨k0_dev3 c, Facts₀.k0_dev3_lt c⟩ : Dev nD) = ahead 3 c := by revert c; decide

theorem cond1_iff (c : Dev nD) : k0_cond1 c = 1#1 ↔ (0 : Dev nD) ≠ c := by revert c; decide
theorem cond2_iff (c : Dev nD) : k0_cond2 c = 1#1 ↔ (1 : Dev nD) ≠ c := by revert c; decide
theorem cond3_iff (c : Dev nD) : k0_cond3 c = 1#1 ↔ (2 : Dev nD) ≠ c := by revert c; decide
theorem cond4_iff (c : Dev nD) : k0_cond4 c = 1#1 ↔ (3 : Dev nD) ≠ c := by revert c; decide
theorem cond9_iff (c : Dev nD) : k0_cond9 c = 1#1 ↔ (0 : Dev nD) ≠ c := by revert c; decide
theorem cond10_iff (c : Dev nD) : k0_cond10 c = 1#1 ↔ (1 : Dev nD) ≠ c := by revert c; decide
theorem cond11_iff (c : Dev nD) : k0_cond11 c = 1#1 ↔ (2 : Dev nD) ≠ c := by revert c; decide
theorem cond12_iff (c : Dev nD) : k0_cond12 c = 1#1 ↔ (3 : Dev nD) ≠ c := by revert c; decide

/-- The device's own number, as the kernel computes it. -/
abbrev me (c : Dev nD) : BitVec 32 := Scalar.remsi (Scalar.divsi (Dev.word c) 1#32) 4#32
/-- The kernel's test that it is not device `s`. -/
theorem other_iff (s c : Dev nD) :
    Scalar.cmpi .ne (Scalar.extui (Scalar.cmpi .ne (me c) (BitVec.ofNat 32 s.val))) 0#32 = 1#1 ↔ s ≠ c := by
  revert s c; decide

/-- The devices other than `c`, in the order `c` addresses them. -/
theorem around {M : Type} [URA M] (c : Dev nD) (Φ : Dev nD → sProp M) :
    bigSep (Finset.univ.erase c) Φ = iprop(Φ (ahead 1 c) ∗ Φ (ahead 2 c) ∗ Φ (ahead 3 c)) :=
  bigSep_eq_bigSepL_of_eq [ahead 1 c, ahead 2 c, ahead 3 c] (by revert c; decide) (by revert c; decide) Φ

/-! ## The payloads -/

theorem pay6_eq (v : Vec F S1x512x512 .bf16) : k0_pay6 v = v := shapeCast_shapeCast v _ _
theorem pay8_eq (v : Vec F S1x512x512 .bf16) : k0_pay8 (k0_pay7 v) = k0_pay9 v := rfl
theorem pay10_eq (v : Vec F S1x512x512 .bf16) : k0_pay10 v = k0_pay9 v := rfl
theorem pay11_eq (v : Vec F S1x512x512 .bf16) : k0_pay11 v = k0_pay9 v := rfl

/-- Band `s` of device `c`'s result, from what `s` computed for it; -/
def outBand (c s : Dev nD) : S512x512.Idx → Elt F .f32 := k0_pay9 (sent m ρ s c)
/-- the result. -/
def outAt (c : Dev nD) : (cc0_stg2_0 : Ref sig .tc).ty.Contents (Elt F) := stack (outBand m ρ c)

/-! ## Loads and stores at a slot or a band -/

section Access

variable (c : Dev nD) {α : Type}

theorem load_slot (b : Memref sig .tc .vmem S4x512x512 .bf16) (d : Fin 4) {off : Fin 3 → ℕ} (h : off = ![d.val, 0, 0])
    {inb : ∀ a, off a + S1x512x512.size a ≤ S4x512x512.size a} {hl : b.view.LoadsAt (Rect.unit (s := S4x512x512) off S1x512x512.size inb).toLoadRect}
    {k : (S1x512x512.Idx → Elt F .bf16) → Prog (TpuEff nD τ sig (Elt F) Λ₀ .tc) α} {X : S1x512x512.Idx → Elt F .bf16} {Q : α → sProp 𝕄} :
    (owns (c : Thread nD τ) (slot b d) fullShare X : sProp 𝕄)
      ⊢ iprop((owns (c : Thread nD τ) (slot b d) fullShare X -∗ wp frame (wpE (defs₀ (F := F)) 𝒱₀ (c : Thread nD τ) none) Set.univ (k X) Q)
        -∗ wp frame (wpE (defs₀ (F := F)) 𝒱₀ (c : Thread nD τ) none) Set.univ
            (.op (.load b (Rect.unit (s := S4x512x512) off S1x512x512.size inb).toLoadRect hl) k) Q) := by
  subst h; exact load_part 𝒱₀ c none Set.univ (fun _ => rfl)

theorem store_slot (b : Memref sig .tc .vmem S4x512x512 .bf16) (d : Fin 4) {off : Fin 3 → ℕ} (h : off = ![d.val, 0, 0])
    {inb : ∀ a, off a + S1x512x512.size a ≤ S4x512x512.size a} {w : S1x512x512.Idx → Elt F .bf16}
    {hx : (b.access (Rect.unit (s := S4x512x512) off S1x512x512.size inb)).Stores Finset.univ}
    {hm : (Finset.univ : Finset (Rect.unit (s := S4x512x512) off S1x512x512.size inb).shape.Idx) = Finset.univ
      ∨ ∀ a, (Rect.unit (s := S4x512x512) off S1x512x512.size inb).stride a = 1}
    {k : PUnit → Prog (TpuEff nD τ sig (Elt F) Λ₀ .tc) α} {X : S1x512x512.Idx → Elt F .bf16} {Q : α → sProp 𝕄} :
    (owns (c : Thread nD τ) (slot b d) fullShare X : sProp 𝕄)
      ⊢ iprop((owns (c : Thread nD τ) (slot b d) fullShare w -∗ wp frame (wpE (defs₀ (F := F)) 𝒱₀ (c : Thread nD τ) none) Set.univ (k ⟨⟩) Q)
        -∗ wp frame (wpE (defs₀ (F := F)) 𝒱₀ (c : Thread nD τ) none) Set.univ
            (.op (.store b (Rect.unit (s := S4x512x512) off S1x512x512.size inb) w Finset.univ hx hm) k) Q) := by
  subst h; exact store_part 𝒱₀ c none Set.univ (fun _ => rfl)

/-- A band is loaded before it is stored; what is read is not used. -/
theorem load_band (b : Memref sig .tc .vmem S2048x512 .f32) (d : Fin 4) {off : Fin 2 → ℕ} (h : off = ![512 * d.val, 0])
    {inb : ∀ a, off a + S512x512.size a ≤ S2048x512.size a} {hl : b.view.LoadsAt (Rect.unit (s := S2048x512) off S512x512.size inb).toLoadRect}
    {k : (S512x512.Idx → Elt F .f32) → Prog (TpuEff nD τ sig (Elt F) Λ₀ .tc) α} {X : S512x512.Idx → Elt F .f32} {Q : α → sProp 𝕄} :
    (owns (c : Thread nD τ) (band b d) fullShare X : sProp 𝕄)
      ⊢ iprop((owns (c : Thread nD τ) (band b d) fullShare X -∗ wp frame (wpE (defs₀ (F := F)) 𝒱₀ (c : Thread nD τ) none) Set.univ (k X) Q)
        -∗ wp frame (wpE (defs₀ (F := F)) 𝒱₀ (c : Thread nD τ) none) Set.univ
            (.op (.load b (Rect.unit (s := S2048x512) off S512x512.size inb).toLoadRect hl) k) Q) := by
  subst h; exact load_part 𝒱₀ c none Set.univ (fun _ => rfl)

theorem store_band (b : Memref sig .tc .vmem S2048x512 .f32) (d : Fin 4) {off : Fin 2 → ℕ} (h : off = ![512 * d.val, 0])
    {inb : ∀ a, off a + S512x512.size a ≤ S2048x512.size a} {w : S512x512.Idx → Elt F .f32}
    {hx : (b.access (Rect.unit (s := S2048x512) off S512x512.size inb)).Stores Finset.univ}
    {hm : (Finset.univ : Finset (Rect.unit (s := S2048x512) off S512x512.size inb).shape.Idx) = Finset.univ
      ∨ ∀ a, (Rect.unit (s := S2048x512) off S512x512.size inb).stride a = 1}
    {k : PUnit → Prog (TpuEff nD τ sig (Elt F) Λ₀ .tc) α} {X : S512x512.Idx → Elt F .f32} {Q : α → sProp 𝕄} :
    (owns (c : Thread nD τ) (band b d) fullShare X : sProp 𝕄)
      ⊢ iprop((owns (c : Thread nD τ) (band b d) fullShare w -∗ wp frame (wpE (defs₀ (F := F)) 𝒱₀ (c : Thread nD τ) none) Set.univ (k ⟨⟩) Q)
        -∗ wp frame (wpE (defs₀ (F := F)) 𝒱₀ (c : Thread nD τ) none) Set.univ
            (.op (.store b (Rect.unit (s := S2048x512) off S512x512.size inb) w Finset.univ hx hm) k) Q) := by
  subst h; exact store_part 𝒱₀ c none Set.univ (fun _ => rfl)

theorem hz : (![0, 0] : Fin 2 → Nat) = fun _ => 0 := funext fun a => by fin_cases a <;> rfl

/-- A load of all of the first staged block reads its contents. -/
theorem load_x {inb : ∀ a, (![0, 0] : Fin 2 → ℕ) a + S512x2048.size a ≤ S512x2048.size a}
    {hl : xB.view.LoadsAt (Rect.unit (s := S512x2048) ![0, 0] S512x2048.size inb).toLoadRect}
    {k : (S512x2048.Idx → Elt F .bf16) → Prog (TpuEff nD τ sig (Elt F) Λ₀ .tc) α} {f : S512x2048.Idx → Elt F .bf16} {Q : α → sProp 𝕄} :
    ((((c : Thread nD τ).loc cc0_stg0_0) ↦{fullShare} f) : sProp 𝕄)
      ⊢ iprop(((((c : Thread nD τ).loc cc0_stg0_0) ↦{fullShare} f) -∗ wp frame (wpE (defs₀ (F := F)) 𝒱₀ (c : Thread nD τ) none) Set.univ (k f) Q)
        -∗ wp frame (wpE (defs₀ (F := F)) 𝒱₀ (c : Thread nD τ) none) Set.univ
            (.op (.load xB (Rect.unit (s := S512x2048) ![0, 0] S512x2048.size inb).toLoadRect hl) k) Q) := by
  have e : xB.view.readAt (Elt F) (Rect.unit (s := S512x2048) ![0, 0] S512x2048.size inb).toLoadRect f = f :=
    Memref.readAt_unit_zero (Elt F) cc0_stg0_0 hz inb f
  iintro H Hk
  iapply (wp_load 𝒱₀ (c : Thread nD τ) none Set.univ (m := xB) (Finset.subset_univ _)) $$ H
  iintro H
  rw [e]
  iapply Hk; iexact H

/-- A load of all of the second staged block reads its contents. -/
theorem load_w {inb : ∀ a, (![0, 0] : Fin 2 → ℕ) a + S2048x2048.size a ≤ S2048x2048.size a}
    {hl : wB.view.LoadsAt (Rect.unit (s := S2048x2048) ![0, 0] S2048x2048.size inb).toLoadRect}
    {k : (S2048x2048.Idx → Elt F .bf16) → Prog (TpuEff nD τ sig (Elt F) Λ₀ .tc) α} {f : S2048x2048.Idx → Elt F .bf16} {Q : α → sProp 𝕄} :
    ((((c : Thread nD τ).loc cc0_stg1_0) ↦{fullShare} f) : sProp 𝕄)
      ⊢ iprop(((((c : Thread nD τ).loc cc0_stg1_0) ↦{fullShare} f) -∗ wp frame (wpE (defs₀ (F := F)) 𝒱₀ (c : Thread nD τ) none) Set.univ (k f) Q)
        -∗ wp frame (wpE (defs₀ (F := F)) 𝒱₀ (c : Thread nD τ) none) Set.univ
            (.op (.load wB (Rect.unit (s := S2048x2048) ![0, 0] S2048x2048.size inb).toLoadRect hl) k) Q) := by
  have e : wB.view.readAt (Elt F) (Rect.unit (s := S2048x2048) ![0, 0] S2048x2048.size inb).toLoadRect f = f :=
    Memref.readAt_unit_zero (Elt F) cc0_stg1_0 hz inb f
  iintro H Hk
  iapply (wp_load 𝒱₀ (c : Thread nD τ) none Set.univ (m := wB) (Finset.subset_univ _)) $$ H
  iintro H
  rw [e]
  iapply Hk; iexact H

end Access

/-! ## The parts of the kernel -/

/-- The four column blocks of a product, in the send slots: what the transfers are to carry. -/
theorem sent_0 (c : Dev nD) : owns (c : Thread nD τ) (slot sB 0) fullShare (k0_pay2 (xstg m ρ c) (wstg m ρ c)) ⊢ sendPay m ρ c 0 := Entails.of_eq rfl
theorem sent_1 (c : Dev nD) : owns (c : Thread nD τ) (slot sB 1) fullShare (k0_pay3 (xstg m ρ c) (wstg m ρ c)) ⊢ sendPay m ρ c 1 := Entails.of_eq rfl
theorem sent_2 (c : Dev nD) : owns (c : Thread nD τ) (slot sB 2) fullShare (k0_pay4 (k0_pay1 (xstg m ρ c) (wstg m ρ c))) ⊢ sendPay m ρ c 2 := Entails.of_eq rfl
theorem sent_3 (c : Dev nD) : owns (c : Thread nD τ) (slot sB 3) fullShare (k0_pay5 (k0_pay1 (xstg m ρ c) (wstg m ρ c))) ⊢ sendPay m ρ c 3 := Entails.of_eq rfl

section Parts

variable (K : Dev nD × Key → ℕ) (c : Dev nD)

/-- What a unit to `d`'s barrier cell takes: the right to pay it, and slot `d` of the receive buffer at some contents. -/
def give (c d : Dev nD) : sProp 𝕄 :=
  iprop(dutyTok EX (barCell d) 0 c ∗ ∃ Y, owns (c : Thread nD τ) (slot rB d) fullShare Y)
/-- A slot of the send buffer, or of any buffer, at some contents. -/
def anySlot (b : Memref sig .tc .vmem S4x512x512 .bf16) (c : Dev nD) (d : Fin 4) : sProp 𝕄 :=
  iprop(∃ Y, owns (c : Thread nD τ) (slot b d) fullShare Y)
/-- A band of the result at some contents; -/
def anyBand (c : Dev nD) (s : Fin 4) : sProp 𝕄 := iprop(∃ Y, owns (c : Thread nD τ) (band oB s) fullShare Y)
/-- and at what it is to hold. -/
def fullBand (c s : Dev nD) : sProp 𝕄 := owns (c : Thread nD τ) (band oB s) fullShare (outBand m ρ c s)
/-- The two staged blocks. -/
def staged (c : Dev nD) : sProp 𝕄 :=
  iprop((((c : Thread nD τ).loc cc0_stg0_0) ↦{fullShare} xstg m ρ c) ∗ (((c : Thread nD τ).loc cc0_stg1_0) ↦{fullShare} wstg m ρ c))

/-- The first part: two of the three units to the other devices' barrier cells. -/
theorem run_part1 {R : (Σ' (d0 : Dev nD) (v2 : BitVec 32) (v3 : Sems sig S_) (v30 : BitVec 32) (c4_i32_18 : BitVec 32), BitVec 1) → sProp 𝕄} :
    iprop(recs m ρ K ∗ owing c (O₀ c) ∗ give c (ahead 1 c) ∗ give c (ahead 2 c))
      ⊢ iprop((∀ a : BitVec 32, ∀ b : BitVec 32, ∀ e : BitVec 1, owing c (O₂ c) -∗ R ⟨c, me c, SemArray.scalar (sig.barrier 0 rfl), a, b, e⟩)
        -∗ wp frame (wpE (defs₀ (F := F)) 𝒱₀ (c : Thread nD τ) none) Set.univ
          (k0_part1 xB (Memref.isWhole_whole _) wB (Memref.isWhole_whole _) oB (Memref.isWhole_whole _) sB (Memref.isWhole_whole _)
            rB (Memref.isWhole_whole _) cc0_scratch2 cc0_scratch3) R) := by
  simp only [k0_part1_eq_skeleton]; unfold k0_part1_skel
  simp only [semSignalWord, semWaitWord, Prog.lift, Prog.bind_op, Prog.bind_ret, Prog.pure_eq_ret, wp_deviceId, dev1_eq c, dev2_eq c]
  unfold give O₀ O₁
  iintro ⟨#HR, HO, ⟨Ht1, HY1⟩, Ht2, HY2⟩ Hk
  iapply (signal_step m ρ K c 1 (by decide) (by decide)) $$ [HO Ht1 HY1]
  · isplitr; · iexact HR
    isplitl [HO]; · iexact HO
    isplitl [Ht1] <;> iassumption
  iintro HO
  iapply (signal_step m ρ K c 2 (by decide) (by decide)) $$ [HO Ht2 HY2]
  · isplitr; · iexact HR
    isplitl [HO]; · iexact HO
    isplitl [Ht2] <;> iassumption
  iintro HO
  rw [wp_ret]; imodintro
  iapply Hk; iexact HO

/-- The right to pay the two cells of a transfer from `c` to `d`. -/
def payToks (c d : Dev nD) : sProp 𝕄 := iprop(dutyTok EX (sendCell c d) 0 d ∗ dutyTok EX (recvCell d c) 0 c)

/-- With the barrier's round come the landing slots: all that the transfers are to take. -/
theorem pend_intro : iprop(bigSep (Finset.univ.erase c) (barPay (F := F) c) ∗ bigSep (Finset.univ.erase c) (payToks c))
    ⊢ (bigSep Finset.univ (pend (F := F) c)) := by
  unfold pend payToks
  rw [pick c, ← bigSep_sep']
  iintro H
  isplitr; · iempintro
  iexact H

/-- The second part: the third unit; the wait for the other devices' units; the product, whose first two column blocks go
    to their slots, the first being sent. -/
theorem run_part2 (a b : BitVec 32) (e : BitVec 1) {R : (Σ' (v48 : FVec F S512x2048 .bf16), BitVec 32) → sProp 𝕄} :
    iprop(recs m ρ K ∗ levAts L lv ∗ owing c (O₂ c) ∗ give c (ahead 3 c) ∗ cred (tallyAt (barCell c) () 3) ∗ atPos EX (barCell c) 0 ∅ 0
        ∗ bigSep (Finset.univ.erase c) (payToks c) ∗ staged m ρ c ∗ anySlot sB c 0 ∗ anySlot sB c 1)
      ⊢ iprop((∀ v61 : BitVec 32, (done m ρ (barCell c) ∗ staged m ρ c ∗ held m ρ c 0 ∗ sendPay m ρ c 1 ∗ (pend c 1 ∗ pend c 2 ∗ pend c 3) ∗ owing c (owed c 1))
            -∗ R ⟨k0_pay1 (xstg m ρ c) (wstg m ρ c), v61⟩)
        -∗ wp frame (wpE (defs₀ (F := F)) 𝒱₀ (c : Thread nD τ) none) Set.univ
          (k0_part2 xB (Memref.isWhole_whole _) wB (Memref.isWhole_whole _) oB (Memref.isWhole_whole _) sB (Memref.isWhole_whole _)
            rB (Memref.isWhole_whole _) cc0_scratch2 cc0_scratch3 c (me c) (SemArray.scalar (sig.barrier 0 rfl)) a b e) R) := by
  simp only [k0_part2_eq_skeleton]; unfold k0_part2_skel
  simp only [semSignalWord, semWaitWord, Prog.lift, Prog.bind_op, Prog.bind_ret, Prog.pure_eq_ret, dev3_eq c]
  unfold give O₂ anySlot staged
  iintro ⟨#HR, #Hlev, HO, ⟨Ht, HY⟩, HcB, HatB, Htoks, ⟨Hx, Hw⟩, ⟨%Y0, HS0⟩, ⟨%Y1, HS1⟩⟩ Hk
  iapply (signal_step m ρ K c 3 (by decide) (by decide)) $$ [HO Ht HY]
  · isplitr; · iexact HR
    isplitl [HO]; · iexact HO
    isplitl [Ht] <;> iassumption
  unfold owing
  iintro ⟨%W, HO⟩
  ihave HRb := (recs_bar m ρ K c) $$ HR
  icases HRb with ⟨HIb, -⟩
  iapply (Rounds.wp_wait_rest_token 𝒱₀ EX (Rd m ρ) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [HIb HcB HO HatB]
  · isplitl [HIb]; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  ihave Hpend := (pend_intro c) $$ [Hp Htoks]
  · isplitl [Hp] <;> iassumption
  ihave Hpend := (Entails.of_eq (bigSep_four _)) $$ Hpend
  icases Hpend with ⟨Hp0, Hp1, Hp2, Hp3⟩
  iapply (load_x c) $$ Hx; iintro Hx
  iapply (load_w c) $$ Hw; iintro Hw
  iapply (load_slot c sB 0 rfl) $$ HS0; iintro HS0
  iapply (store_slot c sB 0 rfl) $$ HS0; iintro HS0
  iapply (send_step m ρ K c 0 (cond1_iff c) (fun h => ⟨k0_dev4, Facts₀.k0_dev4_lt c h⟩) (fun _ => Fin.ext k0_dev4_eq)
    (fun _ => k0_off1 c) (fun _ => k0_off1_eq c) (fun _ => k0_off2 c) (fun _ => k0_off2_eq c)) $$ [HS0 Hp0 HO]
  · isplitr; · iexact HR
    isplitl [HS0]; · iapply (sent_0 m ρ c); iexact HS0
    isplitl [Hp0]; · iexact Hp0
    unfold owing; iexists _; iexact HO
  iintro ⟨Hh0, HO⟩
  iapply (load_slot c sB 1 rfl) $$ HS1; iintro HS1
  iapply (store_slot c sB 1 rfl) $$ HS1; iintro HS1
  rw [wp_ret]; imodintro
  iapply Hk
  isplitl [HatB]
  · unfold done; iexists 1; isplitr; · ipureintro; exact duties_later m ρ _
    iexact HatB
  isplitl [Hx Hw]; · isplitl [Hx] <;> iassumption
  isplitl [Hh0]; · iexact Hh0
  isplitl [HS1]; · iapply (sent_1 m ρ c); iexact HS1
  isplitl [Hp1 Hp2 Hp3]
  · isplitl [Hp1]; · iexact Hp1
    isplitl [Hp2] <;> iassumption
  unfold owing; iexact HO

/-- Slot `c` of the send buffer among what `c` has of its send slots, apart. -/
theorem held_own : bigSep Finset.univ (held m ρ c) ⊢ iprop(sendPay m ρ c c ∗ (sendPay m ρ c c -∗ bigSep Finset.univ (held m ρ c))) := by
  unfold held
  rw [pick c]
  iintro ⟨H, Hrest⟩
  isplitl [H]; · iexact H
  iintro H
  isplitl [H] <;> iassumption

/-- With its own slot filled, all that `c` has of its receive slots. -/
theorem due_intro : iprop(recvPay m ρ c c ∗ bigSep (Finset.univ.erase c) (fun s => cred (tallyAt (recvCell c s) () N)))
    ⊢ bigSep Finset.univ (due m ρ c) := by
  unfold due
  rw [pick c]

/-- The third part: the other column blocks and transfers; the device's own block moved to its receive slot; the arrival
    of device 0's block. -/
theorem run_part3 (v61 : BitVec 32) {R : FVec F S512x512 .bf16 → sProp 𝕄} :
    iprop(recs m ρ K ∗ owing c (owed c 1) ∗ held m ρ c 0 ∗ sendPay m ρ c 1 ∗ (pend c 1 ∗ pend c 2 ∗ pend c 3) ∗ anySlot sB c 2 ∗ anySlot sB c 3
        ∗ anySlot rB c c ∗ bigSep (Finset.univ.erase c) (fun s => cred (tallyAt (recvCell c s) () N)) ∗ atPos EX (recvCell c 0) 0 ∅ 0)
      ⊢ iprop(((owing c 0 ∗ bigSep Finset.univ (held m ρ c) ∗ done m ρ (recvCell c 0) ∗ recvPay m ρ c 0 ∗ due m ρ c 1 ∗ due m ρ c 2 ∗ due m ρ c 3)
            -∗ R (k0_pay7 (sent m ρ 0 c)))
        -∗ wp frame (wpE (defs₀ (F := F)) 𝒱₀ (c : Thread nD τ) none) Set.univ
          (k0_part3 xB (Memref.isWhole_whole _) wB (Memref.isWhole_whole _) oB (Memref.isWhole_whole _) sB (Memref.isWhole_whole _)
            rB (Memref.isWhole_whole _) cc0_scratch2 cc0_scratch3 c (me c) (k0_pay1 (xstg m ρ c) (wstg m ρ c)) v61) R) := by
  simp only [k0_part3_eq_skeleton]; unfold k0_part3_skel
  simp only [Prog.lift, Prog.bind_op, Prog.bind_ret, Prog.pure_eq_ret, pay6_eq]
  unfold anySlot
  iintro ⟨#HR, HO, Hh0, HS1, ⟨Hp1, Hp2, Hp3⟩, ⟨%Y2, HS2⟩, ⟨%Y3, HS3⟩, ⟨%Yc, HRc⟩, Hcr, HatV⟩ Hk
  iapply (send_step m ρ K c 1 (cond2_iff c) (fun h => ⟨k0_dev5, Facts₀.k0_dev5_lt c h⟩) (fun _ => Fin.ext k0_dev5_eq)
    (fun _ => k0_off3 c) (fun _ => k0_off3_eq c) (fun _ => k0_off4 c) (fun _ => k0_off4_eq c)) $$ [HS1 Hp1 HO]
  · isplitr; · iexact HR
    isplitl [HS1]; · iexact HS1
    isplitl [Hp1]; · iexact Hp1
    iexact HO
  iintro ⟨Hh1, HO⟩
  iapply (load_slot c sB 2 rfl) $$ HS2; iintro HS2
  iapply (store_slot c sB 2 rfl) $$ HS2; iintro HS2
  iapply (send_step m ρ K c 2 (cond3_iff c) (fun h => ⟨k0_dev6, Facts₀.k0_dev6_lt c h⟩) (fun _ => Fin.ext k0_dev6_eq)
    (fun _ => k0_off5 c) (fun _ => k0_off5_eq c) (fun _ => k0_off6 c) (fun _ => k0_off6_eq c)) $$ [HS2 Hp2 HO]
  · isplitr; · iexact HR
    isplitl [HS2]; · iapply (sent_2 m ρ c); iexact HS2
    isplitl [Hp2]; · iexact Hp2
    iexact HO
  iintro ⟨Hh2, HO⟩
  iapply (load_slot c sB 3 rfl) $$ HS3; iintro HS3
  iapply (store_slot c sB 3 rfl) $$ HS3; iintro HS3
  iapply (send_step m ρ K c 3 (cond4_iff c) (fun h => ⟨k0_dev7, Facts₀.k0_dev7_lt c h⟩) (fun _ => Fin.ext k0_dev7_eq)
    (fun _ => k0_off7 c) (fun _ => k0_off7_eq c) (fun _ => k0_off8 c) (fun _ => k0_off8_eq c)) $$ [HS3 Hp3 HO]
  · isplitr; · iexact HR
    isplitl [HS3]; · iapply (sent_3 m ρ c); iexact HS3
    isplitl [Hp3]; · iexact Hp3
    iexact HO
  iintro ⟨Hh3, HO⟩
  ihave Hh := (Entails.of_eq (bigSep_four (held m ρ c)).symm) $$ [Hh0 Hh1 Hh2 Hh3]
  · isplitl [Hh0]; · iexact Hh0
    isplitl [Hh1]; · iexact Hh1
    isplitl [Hh2] <;> iassumption
  ihave Hh := (held_own m ρ c) $$ Hh
  icases Hh with ⟨Hown, Hback⟩
  ihave Hown := (Entails.of_eq (show sendPay m ρ c c = owns (c : Thread nD τ) (slot sB c) fullShare (sent m ρ c c) from rfl)) $$ Hown
  iapply (load_slot c sB c (k0_off9_eq c)) $$ Hown; iintro Hown
  iapply (load_slot c rB c (k0_off9_eq c)) $$ HRc; iintro HRc
  iapply (store_slot c rB c (k0_off9_eq c)) $$ HRc; iintro HRc
  ihave Hh := Hback $$ [Hown]
  · unfold sendPay; iexact Hown
  ihave Hdue := (due_intro m ρ c) $$ [HRc Hcr]
  · isplitl [HRc]; · unfold recvPay; iexact HRc
    iexact Hcr
  ihave Hdue := (Entails.of_eq (bigSep_four (due m ρ c))) $$ Hdue
  icases Hdue with ⟨Hd0, Hd1, Hd2, Hd3⟩
  iapply (recv_step m ρ K c 0 (other_iff 0 c)) $$ [HO HatV Hd0]
  · isplitr; · iexact HR
    isplitl [HO]; · iexact HO
    isplitl [HatV] <;> iassumption
  unfold recvPay
  iintro ⟨HO, Hdn, HV⟩
  iapply (load_slot c rB 0 rfl) $$ HV; iintro HV
  rw [wp_ret]; imodintro
  iapply Hk
  isplitl [HO]; · iexact HO
  isplitl [Hh]; · iexact Hh
  isplitl [Hdn]; · iexact Hdn
  isplitl [HV]; · iexact HV
  isplitl [Hd1]; · iexact Hd1
  isplitl [Hd2] <;> iassumption

/-- The fourth part: the first three bands of the result, and the arrivals of the other devices' blocks. -/
theorem run_part4 {R : FVec F S512x512 .f32 → sProp 𝕄} :
    iprop(recs m ρ K ∗ owing c 0 ∗ (atPos EX (recvCell c 1) 0 ∅ 0 ∗ atPos EX (recvCell c 2) 0 ∅ 0 ∗ atPos EX (recvCell c 3) 0 ∅ 0)
        ∗ (due m ρ c 1 ∗ due m ρ c 2 ∗ due m ρ c 3) ∗ (anyBand c 0 ∗ anyBand c 1 ∗ anyBand c 2 ∗ anyBand c 3))
      ⊢ iprop(((owing c 0 ∗ (done m ρ (recvCell c 1) ∗ done m ρ (recvCell c 2) ∗ done m ρ (recvCell c 3))
              ∗ (recvPay m ρ c 1 ∗ recvPay m ρ c 2 ∗ recvPay m ρ c 3) ∗ (fullBand m ρ c 0 ∗ fullBand m ρ c 1 ∗ fullBand m ρ c 2 ∗ anyBand c 3))
            -∗ R (outBand m ρ c 3))
        -∗ wp frame (wpE (defs₀ (F := F)) 𝒱₀ (c : Thread nD τ) none) Set.univ
          (k0_part4 xB (Memref.isWhole_whole _) wB (Memref.isWhole_whole _) oB (Memref.isWhole_whole _) sB (Memref.isWhole_whole _)
            rB (Memref.isWhole_whole _) cc0_scratch2 cc0_scratch3 (me c) (k0_pay7 (sent m ρ 0 c))) R) := by
  simp only [k0_part4_eq_skeleton]; unfold k0_part4_skel
  simp only [Prog.lift, Prog.bind_op, Prog.bind_ret, Prog.pure_eq_ret, pay8_eq, pay10_eq, pay11_eq]
  unfold anyBand fullBand recvPay
  iintro ⟨#HR, HO, ⟨Ha1, Ha2, Ha3⟩, ⟨Hd1, Hd2, Hd3⟩, ⟨%Z0, HB0⟩, ⟨%Z1, HB1⟩, ⟨%Z2, HB2⟩, ⟨%Z3, HB3⟩⟩ Hk
  iapply (load_band c oB 0 rfl) $$ HB0; iintro HB0
  iapply (store_band c oB 0 rfl) $$ HB0; iintro HB0
  iapply (recv_step m ρ K c 1 (other_iff 1 c)) $$ [HO Ha1 Hd1]
  · isplitr; · iexact HR
    isplitl [HO]; · iexact HO
    isplitl [Ha1] <;> iassumption
  unfold recvPay
  iintro ⟨HO, Hn1, HV1⟩
  iapply (load_slot c rB 1 rfl) $$ HV1; iintro HV1
  iapply (load_band c oB 1 rfl) $$ HB1; iintro HB1
  iapply (store_band c oB 1 rfl) $$ HB1; iintro HB1
  iapply (recv_step m ρ K c 2 (other_iff 2 c)) $$ [HO Ha2 Hd2]
  · isplitr; · iexact HR
    isplitl [HO]; · iexact HO
    isplitl [Ha2] <;> iassumption
  unfold recvPay
  iintro ⟨HO, Hn2, HV2⟩
  iapply (load_slot c rB 2 rfl) $$ HV2; iintro HV2
  iapply (load_band c oB 2 rfl) $$ HB2; iintro HB2
  iapply (store_band c oB 2 rfl) $$ HB2; iintro HB2
  iapply (recv_step m ρ K c 3 (other_iff 3 c)) $$ [HO Ha3 Hd3]
  · isplitr; · iexact HR
    isplitl [HO]; · iexact HO
    isplitl [Ha3] <;> iassumption
  unfold recvPay
  iintro ⟨HO, Hn3, HV3⟩
  iapply (load_slot c rB 3 rfl) $$ HV3; iintro HV3
  iapply (load_band c oB 3 rfl) $$ HB3; iintro HB3
  rw [wp_ret]; imodintro
  unfold outBand
  iapply Hk
  isplitl [HO]; · iexact HO
  isplitl [Hn1 Hn2 Hn3]
  · isplitl [Hn1]; · iexact Hn1
    isplitl [Hn2] <;> iassumption
  isplitl [HV1 HV2 HV3]
  · isplitl [HV1]; · iexact HV1
    isplitl [HV2] <;> iassumption
  isplitl [HB0]; · iexact HB0
  isplitl [HB1]; · iexact HB1
  isplitl [HB2]; · iexact HB2
  iexists Z3; iexact HB3

end Parts

/-! ## The pipeline's proof data -/

theorem cfg0_N : cfg0.N = 1 := N_0
/-- The grid's one point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What stays with device `c`: its positions at its cells' round 0, and the right to pay the duties it pays. -/
def linear (c : Dev nD) : sProp 𝕄 :=
  iprop(atPos EX (barCell c) 0 ∅ 0 ∗ (bigSep Finset.univ fun d : Fin 4 => atPos EX (sendCell c d) 0 ∅ 0)
    ∗ (bigSep Finset.univ fun s : Fin 4 => atPos EX (recvCell c s) 0 ∅ 0)
    ∗ (bigSep (Finset.univ.erase c) fun d => dutyTok EX (barCell d) 0 c) ∗ bigSep (Finset.univ.erase c) (payToks c))

/-- The credit device `c` waits with: three units at its barrier cell, one transfer's at each receive cell but its own. -/
def credits (c : Dev nD) : sProp 𝕄 :=
  iprop(cred (tallyAt (barCell c) () 3) ∗ bigSep (Finset.univ.erase c) (fun s => cred (tallyAt (recvCell c s) () N)))

/-- What device `c`'s body starts from. -/
def start (c : Dev nD) : sProp 𝕄 :=
  iprop((∃ K, recs m ρ K ∗ linear c) ∗ credits c ∗ levAts L lv)

/-- The two scratch buffers at some contents. -/
def scratch (c : Dev nD) : sProp 𝕄 :=
  iprop((∃ X, owns (c : Thread nD τ) sB fullShare X) ∗ ∃ X, owns (c : Thread nD τ) rB fullShare X)

def Φ₀ (c : Dev nD) : sProp 𝕄 := iprop(start m ρ c ∗ scratch c)
/-- After the body: the scratch buffers, and every cell's counter at zero. -/
def Φ₁ (c : Dev nD) : sProp 𝕄 := iprop(scratch c ∗ bigSep Finset.univ fun k : Key => semVal (kcell (c, k)) 0)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- The kernel on its staging buffers, scratch buffers and semaphores. -/
abbrev body : Prog (TpuEff nD τ sig (Elt F) Λ₀ .tc) PUnit :=
  cc0_body xB (Memref.isWhole_whole _) wB (Memref.isWhole_whole _) oB (Memref.isWhole_whole _) sB (Memref.isWhole_whole _)
    rB (Memref.isWhole_whole _) cc0_scratch2 cc0_scratch3

variable (K : Dev nD × Key → ℕ) (c : Dev nD)

/-- All cells no more to be paid, they close. -/
theorem close_all : iprop(recs m ρ K ∗ bigSep Finset.univ fun k : Key => done m ρ (kcell (c, k)))
    ⊢ (|={Set.univ}=> bigSep Finset.univ fun k : Key => semVal (kcell (c, k)) 0 : sProp 𝕄) :=
  (bigSep_with_persistent (R := recs m ρ K) fun k _ => close_done m ρ K c k).trans (bigSep_fupd _ _)

theorem done_all : iprop(done m ρ (barCell c)
      ∗ (done m ρ (sendCell c 0) ∗ done m ρ (sendCell c 1) ∗ done m ρ (sendCell c 2) ∗ done m ρ (sendCell c 3))
      ∗ (done m ρ (recvCell c 0) ∗ done m ρ (recvCell c 1) ∗ done m ρ (recvCell c 2) ∗ done m ρ (recvCell c 3)))
    ⊢ bigSep Finset.univ fun k : Key => done m ρ (kcell (c, k)) := by
  rw [bigSep_univ_sum, bigSep_univ_sum, bigSep_four, bigSep_four, Finset.univ_unique, bigSep_singleton]
  exact Entails.of_eq rfl

/-- The send slots, all transfers read, are the send buffer. -/
theorem sent_slots : iprop(sendPay m ρ c 0 ∗ sendPay m ρ c 1 ∗ sendPay m ρ c 2 ∗ sendPay m ρ c 3)
    ⊢ owns (c : Thread nD τ) sB fullShare (glue fun d => sent m ρ c d) := by
  exact (Entails.of_eq (bigSep_four (sendPay m ρ c)).symm).trans (slots_join c sB fun d => sent m ρ c d)

/-- The receive slots, all landed, are the receive buffer. -/
theorem recv_slots : iprop(recvPay m ρ c 0 ∗ recvPay m ρ c 1 ∗ recvPay m ρ c 2 ∗ recvPay m ρ c 3)
    ⊢ owns (c : Thread nD τ) rB fullShare (glue fun s => sent m ρ s c) := by
  exact (Entails.of_eq (bigSep_four (recvPay m ρ c)).symm).trans (slots_join c rB fun s => sent m ρ s c)

/-- The four bands, all written, are the result's block. -/
theorem full_bands : iprop(fullBand m ρ c 0 ∗ fullBand m ρ c 1 ∗ fullBand m ρ c 2 ∗ fullBand m ρ c 3)
    ⊢ owns (c : Thread nD τ) oB fullShare (outAt m ρ c) := by
  exact (Entails.of_eq (bigSep_four (fullBand m ρ c)).symm).trans (bands_join c oB (outBand m ρ c))

/-- The kernel, from its staged blocks, any contents of the result's staging buffer and of the scratch buffers, and what it starts from. -/
theorem run_body (Z : S2048x512.Idx → Elt F .f32) (Q : PUnit → sProp 𝕄) :
    iprop(recs m ρ K ∗ levAts L lv ∗ linear c ∗ credits c ∗ scratch c ∗ owing c (O₀ c) ∗ staged m ρ c ∗ owns (c : Thread nD τ) oB fullShare Z)
      ⊢ iprop(((Φ₁ (F := F) c ∗ owing c 0 ∗ staged m ρ c ∗ owns (c : Thread nD τ) oB fullShare (outAt m ρ c)) -∗ Q ⟨⟩)
        -∗ wp frame (wpE (defs₀ (F := F)) 𝒱₀ (c : Thread nD τ) none) Set.univ body Q) := by
  unfold body
  simp only [cc0_body_eq_skeleton]; unfold cc0_body_skel
  simp only [wp_bind]
  unfold linear credits scratch
  iintro ⟨#HR, #Hlev, ⟨HatB, HatS, HatV, HtB, Htoks⟩, ⟨HcB, HcV⟩, ⟨⟨%XS, HS⟩, ⟨%XR, HV⟩⟩, HO, Hst, Hout⟩ Hk
  ihave HS := ((slots_split c sB XS).trans (Entails.of_eq (bigSep_four _))) $$ HS
  icases HS with ⟨HS0, HS1, HS2, HS3⟩
  ihave HV := ((slots_split c rB XR).trans (Entails.of_eq (bigSep_univ_at _ c))) $$ HV
  icases HV with ⟨HVc, HV⟩
  ihave Hout := ((bands_split c oB Z).trans (Entails.of_eq (bigSep_four _))) $$ Hout
  icases Hout with ⟨HB0, HB1, HB2, HB3⟩
  ihave Hg := (Entails.of_eq (show iprop((bigSep (Finset.univ.erase c) fun d => dutyTok EX (barCell d) 0 c)
      ∗ bigSep (Finset.univ.erase c) fun d => iprop(∃ Y, owns (c : Thread nD τ) (slot rB d) fullShare Y))
      = (bigSep (Finset.univ.erase c) (give (F := F) c) : sProp 𝕄) from by unfold give; rw [bigSep_sep'])) $$ [HtB HV]
  · isplitl [HtB] <;> iassumption
  ihave Hg := (Entails.of_eq (around c _)) $$ Hg
  icases Hg with ⟨Hg1, Hg2, Hg3⟩
  ihave HatV := (Entails.of_eq (bigSep_four _)) $$ HatV
  icases HatV with ⟨Ha0, Ha1, Ha2, Ha3⟩
  ihave HatS := (Entails.of_eq (bigSep_four _)) $$ HatS
  icases HatS with ⟨Hs0, Hs1, Hs2, Hs3⟩
  iapply (run_part1 m ρ K c) $$ [HO Hg1 Hg2]
  · isplitr; · iexact HR
    isplitl [HO]; · iexact HO
    isplitl [Hg1] <;> iassumption
  iintro %a %b %e HO
  iapply (run_part2 m ρ K c a b e) $$ [HO Hg3 HcB HatB Htoks Hst HS0 HS1]
  · isplitr; · iexact HR
    isplitr; · iexact Hlev
    isplitl [HO]; · iexact HO
    isplitl [Hg3]; · iexact Hg3
    isplitl [HcB]; · iexact HcB
    isplitl [HatB]; · iexact HatB
    isplitl [Htoks]; · iexact Htoks
    isplitl [Hst]; · iexact Hst
    unfold anySlot
    isplitl [HS0] <;> iassumption
  iintro %v61 ⟨HnB, Hst, Hh0, Hp1, Hpend, HO⟩
  iapply (run_part3 m ρ K c v61) $$ [HO Hh0 Hp1 Hpend HS2 HS3 HVc HcV Ha0]
  · isplitr; · iexact HR
    isplitl [HO]; · iexact HO
    isplitl [Hh0]; · iexact Hh0
    isplitl [Hp1]; · iexact Hp1
    isplitl [Hpend]; · iexact Hpend
    unfold anySlot
    isplitl [HS2]; · iexact HS2
    isplitl [HS3]; · iexact HS3
    isplitl [HVc]; · iexact HVc
    isplitl [HcV] <;> iassumption
  iintro ⟨HO, Hh, Hn0, HV0, Hd⟩
  iapply (run_part4 m ρ K c) $$ [HO Ha1 Ha2 Ha3 Hd HB0 HB1 HB2 HB3]
  · isplitr; · iexact HR
    isplitl [HO]; · iexact HO
    isplitl [Ha1 Ha2 Ha3]
    · isplitl [Ha1]; · iexact Ha1
      isplitl [Ha2] <;> iassumption
    isplitl [Hd]; · iexact Hd
    unfold anyBand
    isplitl [HB0]; · iexact HB0
    isplitl [HB1]; · iexact HB1
    isplitl [HB2] <;> iassumption
  unfold anyBand
  iintro ⟨HO, Hn, HV, HB0, HB1, HB2, ⟨%Z3, HB3⟩⟩
  simp only [Prog.lift, Prog.bind_op, Prog.bind_ret, Prog.pure_eq_ret]
  iapply (store_band c oB 3 rfl) $$ HB3; iintro HB3
  rw [wp_ret]; imodintro
  ihave Hh := (Entails.of_eq (bigSep_four _)) $$ Hh
  icases Hh with ⟨Hh0, Hh1, Hh2, Hh3⟩
  iapply (sent_step m ρ K c 0 (cond9_iff c)) $$ [HO Hs0 Hh0]
  · isplitr; · iexact HR
    isplitl [HO]; · iexact HO
    isplitl [Hs0] <;> iassumption
  iintro ⟨HO, Hm0, HS0⟩
  iapply (sent_step m ρ K c 1 (cond10_iff c)) $$ [HO Hs1 Hh1]
  · isplitr; · iexact HR
    isplitl [HO]; · iexact HO
    isplitl [Hs1] <;> iassumption
  iintro ⟨HO, Hm1, HS1⟩
  iapply (sent_step m ρ K c 2 (cond11_iff c)) $$ [HO Hs2 Hh2]
  · isplitr; · iexact HR
    isplitl [HO]; · iexact HO
    isplitl [Hs2] <;> iassumption
  iintro ⟨HO, Hm2, HS2⟩
  iapply (sent_step m ρ K c 3 (cond12_iff c)) $$ [HO Hs3 Hh3]
  · isplitr; · iexact HR
    isplitl [HO]; · iexact HO
    isplitl [Hs3] <;> iassumption
  iintro ⟨HO, Hm3, HS3⟩
  ihave HS := (sent_slots m ρ c) $$ [HS0 HS1 HS2 HS3]
  · isplitl [HS0]; · iexact HS0
    isplitl [HS1]; · iexact HS1
    isplitl [HS2] <;> iassumption
  icases HV with ⟨HV1, HV2, HV3⟩
  ihave HV := (recv_slots m ρ c) $$ [HV0 HV1 HV2 HV3]
  · isplitl [HV0]; · iexact HV0
    isplitl [HV1]; · iexact HV1
    isplitl [HV2] <;> iassumption
  ihave HB := (full_bands m ρ c) $$ [HB0 HB1 HB2 HB3]
  · isplitl [HB0]; · iexact HB0
    isplitl [HB1]; · iexact HB1
    isplitl [HB2]; · iexact HB2
    unfold fullBand; iexact HB3
  icases Hn with ⟨Hn1, Hn2, Hn3⟩
  ihave Hdone := (done_all m ρ c) $$ [HnB Hm0 Hm1 Hm2 Hm3 Hn0 Hn1 Hn2 Hn3]
  · isplitl [HnB]; · iexact HnB
    isplitl [Hm0 Hm1 Hm2 Hm3]
    · isplitl [Hm0]; · iexact Hm0
      isplitl [Hm1]; · iexact Hm1
      isplitl [Hm2] <;> iassumption
    isplitl [Hn0]; · iexact Hn0
    isplitl [Hn1]; · iexact Hn1
    isplitl [Hn2] <;> iassumption
  rw [wp_ret]
  imod (close_all m ρ K c) $$ [Hdone] with Hz
  · isplitr; · iexact HR
    iexact Hdone
  imodintro
  iapply Hk
  unfold Φ₁ scratch
  isplitl [HS HV Hz]
  · isplitl [HS HV]
    · isplitl [HS]
      · iexists _; iexact HS
      · iexists _; iexact HV
    · iexact Hz
  isplitl [HO]; · iexact HO
  isplitl [Hst]; · iexact Hst
  iexact HB

end Cert.AllToAll

end
-- ==== Proof.Launch.lean ====
/-
# Launch: the four devices' kernels, run together from any memory

The launch state deals every device its cells, its positions and the tokens of the duties it pays; the kernels run; at the
end every device's result array holds its computed block, its arguments are unchanged, and every counter is zero.
-/
module

public import proofs.«01_k».proof.Proof.Body
public import proofs.«01_k».proof.Proof.Gen.KernelIdeal.Points
public import Idealize.ShloMosaic.Lib.Pipeline.CollectiveSegs

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

/-- A staging buffer, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ c))

theorem before_x (c : Dev nD) (d) : (dats m ρ 0 c).before (0 : Fin 3) t₀ d = xstg m ρ c := by
  unfold Dat.before; rw [if_pos (fetch0_0 t₀)]; rfl
theorem before_w (c : Dev nD) (d) : (dats m ρ 0 c).before (1 : Fin 3) t₀ d = wstg m ρ c := by
  unfold Dat.before; rw [if_pos (fetch0_1 t₀)]; rfl

theorem sound_body (c : Dev nD) :
    bodyPre m ρ c ⊢ wp frame (wpE (defs₀ (F := F)) 𝒱₀ (c : Thread nD τ) none) Set.univ (body (F := F)) (fun _ => bodyPost m ρ c) := by
  unfold bodyPre bodyPost Φ₀ start
  iintro ⟨⟨⟨⟨%K, HR, Hlin⟩, Hcr, Hlev⟩, Hscr⟩, Ho, ⟨%d0, %g0, %hg0, Hx⟩, ⟨%d1, %g1, %hg1, Hw⟩, ⟨%d2, %g2, %hg2, Hout⟩⟩
  have hx : g0 = xstg m ρ c := by rw [hg0]; exact before_x m ρ c d0
  have hw : g1 = wstg m ρ c := by rw [hg1]; exact before_w m ρ c d1
  subst hx hw
  unfold Dat.owesAt Pipeline.owesWithin
  icases Ho with ⟨%W, %hW, HO⟩
  rw [show (dats m ρ 0 c).owed t₀.castSucc = O₀ c from rfl, show (dats m ρ 0 c).owed t₀.succ = 0 from rfl]
  ihave Hout := (show iprop(((c : Thread nD τ).loc cc0_stg2_0) ↦{fullShare} g2) ⊢ (owns (c : Thread nD τ) oB fullShare g2 : sProp 𝕄) from by
    rw [owns_whole_eq]; iintro H; iexists g2; isplitr
    · ipureintro; rfl
    · iexact H) $$ Hout
  iapply (run_body m ρ K c g2 (fun _ => _)) $$ [HR Hlev Hlin Hcr Hscr HO Hx Hw Hout]
  · isplitl [HR]; · iexact HR
    isplitl [Hlev]; · iexact Hlev
    isplitl [Hlin]; · iexact Hlin
    isplitl [Hcr]; · iexact Hcr
    isplitl [Hscr]; · iexact Hscr
    isplitl [HO]; · unfold owing; iexists W; iexact HO
    isplitl [Hx Hw]
    · unfold staged; isplitl [Hx] <;> iassumption
    iexact Hout
  unfold owing staged
  iintro ⟨HΦ, ⟨%W', HO⟩, ⟨Hx, Hw⟩, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  ihave Hout := (Entails.of_eq (owns_whole_eq (F := F) c cc0_stg2_0 (outAt m ρ c))) $$ Hout
  iexact Hout

set_option maxRecDepth 4000 in
/-- The pipeline's obligation on device `c`'s body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

/-! ## The cells and the tokens dealt at launch -/

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Key, csem k = csem k' → k = k' := by decide

theorem kcell_injective : Function.Injective kcell := fun ck ck' h =>
  Prod.ext (congrArg (fun g : GSem nD τ sig => g.1.1) h) (csem_inj _ _ (congrArg Prod.snd h))
def exCells : Finset (GSem nD τ sig) := Finset.univ.map ⟨kcell, kcell_injective⟩

/-- Which cell of `c` the duty named `d` is a duty of: the barrier cell, send cell `d`, or receive cell `d`. -/
def dutyKey (k : Fin 3) (d : Dev nD) : Key := match k with
  | 0 => .inl () | 1 => .inr (.inl d) | 2 => .inr (.inr d)
/-- The tokens minted: for every device, kind of cell and device naming the duty. -/
abbrev tokOf (x : Dev nD × Fin 3 × Dev nD) : GSem nD τ sig × ℕ × Dev nD := (kcell (x.1, dutyKey x.2.1 x.2.2), 0, x.2.2)
theorem dutyKey_inj : ∀ (k k' : Fin 3) (d : Dev nD), dutyKey k d = dutyKey k' d → k = k' := by decide
theorem tokOf_injective : Function.Injective tokOf := by
  rintro ⟨c, k, d⟩ ⟨c', k', d'⟩ h
  obtain rfl : d = d' := congrArg (fun x : GSem nD τ sig × ℕ × Dev nD => x.2.2) h
  have h1 := kcell_injective (congrArg Prod.fst h)
  obtain rfl : c = c' := congrArg Prod.fst h1
  obtain rfl : k = k' := dutyKey_inj _ _ _ (congrArg Prod.snd h1)
  rfl
def exToks : Finset (GSem nD τ sig × ℕ × Dev nD) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun d : Dev nD => dutyTok EX (barCell c) 0 d) ∗ (bigSep Finset.univ fun d : Dev nD => dutyTok EX (sendCell c d) 0 d)
    ∗ (bigSep Finset.univ fun d : Dev nD => dutyTok EX (recvCell c d) 0 d))

/-- What the launch state deals device `c`. -/
def G (c : Dev nD) : sProp 𝕄 :=
  iprop((bigSep Finset.univ fun k : Key => roundState EX (Rd m ρ) (kcell (c, k)) 0)
    ∗ (bigSep Finset.univ fun k : Key => iprop(atPos EX (kcell (c, k)) 0 ∅ 0 ∗ reached EX (kcell (c, k)) 0)) ∗ toks c)
/-- What device `c` starts with, once every cell has its invariant. -/
def G' (c : Dev nD) : sProp 𝕄 := iprop(∃ K, recs m ρ K ∗ linear c)

theorem bigSep_three {M : Type} [URA M] (Φ : Fin 3 → sProp M) : bigSep Finset.univ Φ = iprop(Φ 0 ∗ Φ 1 ∗ Φ 2) :=
  bigSep_univ_eq_bigSepL [0, 1, 2] (by decide) (by decide) Φ

theorem fund_cells : BI.own (EX (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Key => Φ (kcell (c, k)) := by
    unfold exCells; rw [bigSep_map, bigSep_univ_prod]; rfl
  have hT : bigSep exToks (fun x => (dutyTok EX x.1 x.2.1 x.2.2 : sProp 𝕄)) = bigSep Finset.univ fun c : Dev nD => toks c := by
    unfold exToks; rw [bigSep_map, bigSep_univ_prod]
    exact bigSep_congr fun c _ => by unfold toks; rw [bigSep_univ_prod, bigSep_three]; rfl
  iintro HX
  imod (Rounds.fund EX (Rd m ρ) exCells exToks) $$ HX with ⟨Hst, Hr, Hat, Htok⟩
  imodintro
  ihave Hst' := (Entails.of_eq (hX fun g => roundState EX (Rd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the one semaphore the launch does not scope; -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- with the kernel's own, a device has the counters of all its cells. -/
theorem sems0_eq (c : Dev nD) :
    (bigSep Finset.univ fun k : Key => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_univ_sum, Finset.univ_unique, bigSep_singleton, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (Rd m ρ) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Key => semVal (kcell (c, k)) 0) ∗ bigSep Finset.univ fun k : Key => roundState EX (Rd m ρ) (kcell (c, k)) 0)
      ⊢ (|={Set.univ}=> bigSep Finset.univ fun k => iprop(∃ κ : ℕ, cellInv EX (Rd m ρ) κ (kcell (c, k))) : sProp 𝕄) from by
        rw [← bigSep_sep']
        exact (bigSep_mono fun k _ => (Rounds.body_intro EX (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over all devices gives the family over the devices but `c`. -/
theorem drop_own (c : Dev nD) (Φ : Dev nD → sProp 𝕄) : bigSep Finset.univ Φ ⊢ bigSep (Finset.univ.erase c) Φ :=
  bigSep_subset (Finset.erase_subset _ _)

/-- The tokens a device pays with. -/
def paid (c : Dev nD) : sProp 𝕄 :=
  iprop((bigSep (Finset.univ.erase c) fun d => dutyTok EX (barCell d) 0 c) ∗ bigSep (Finset.univ.erase c) (payToks c))

/-- The tokens dealt round: those of the barrier and receive cells go to the devices that pay them. -/
theorem toks_around : (bigSep Finset.univ fun c : Dev nD => (toks c : sProp 𝕄)) ⊢ bigSep Finset.univ fun c : Dev nD => paid c := by
  unfold toks
  rw [bigSep_sep', bigSep_sep', bigSep_univ_comm (fun c d : Dev nD => (dutyTok EX (barCell c) 0 d : sProp 𝕄)),
    bigSep_univ_comm (fun c d : Dev nD => (dutyTok EX (recvCell c d) 0 d : sProp 𝕄)), ← bigSep_sep', ← bigSep_sep']
  refine bigSep_mono fun c _ => ?_
  unfold paid payToks
  rw [bigSep_sep']
  exact BI.sep_mono (drop_own c _) (BI.sep_mono (drop_own c _) (drop_own c _))

/-- A device's positions, cell by cell. -/
theorem pos_eq (c : Dev nD) : (bigSep Finset.univ fun k : Key => (atPos EX (kcell (c, k)) 0 ∅ 0 : sProp 𝕄))
    = iprop(atPos EX (barCell c) 0 ∅ 0 ∗ (bigSep Finset.univ fun d : Fin 4 => atPos EX (sendCell c d) 0 ∅ 0)
      ∗ (bigSep Finset.univ fun s : Fin 4 => atPos EX (recvCell c s) 0 ∅ 0)) := by
  rw [bigSep_univ_sum, bigSep_univ_sum, Finset.univ_unique, bigSep_singleton]; rfl

theorem linear_intro (c : Dev nD) : iprop((bigSep Finset.univ fun k : Key => (atPos EX (kcell (c, k)) 0 ∅ 0 : sProp 𝕄)) ∗ paid c) ⊢ linear c := by
  rw [pos_eq]; unfold linear paid
  iintro ⟨⟨H1, H2, H3⟩, H4⟩
  isplitl [H1]; · iexact H1
  isplitl [H2]; · iexact H2
  isplitl [H3]; · iexact H3
  iexact H4

theorem start_each (K : Dev nD × Key → ℕ) (c : Dev nD) : iprop(recs m ρ K ∗ linear c) ⊢ G' m ρ c := by
  unfold G'
  iintro H; iexists K; iexact H

theorem regroup :
    (bigSep Finset.univ fun c : Dev nD => iprop((bigSep Finset.univ fun k => iprop(∃ κ : ℕ, cellInv EX (Rd m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  rw [bigSep_sep', bigSep_sep', ← bigSep_univ_prod (fun ck : Dev nD × Key => iprop(∃ κ : ℕ, cellInv EX (Rd m ρ) κ (kcell ck))),
    bigSep_congr (s := Finset.univ) (fun (c : Dev nD) _ => bigSep_sep' Finset.univ (fun k : Key => (atPos EX (kcell (c, k)) 0 ∅ 0 : sProp 𝕄)) (fun k => reached EX (kcell (c, k)) 0)),
    bigSep_sep', ← bigSep_univ_prod (fun ck : Dev nD × Key => (reached EX (kcell ck) 0 : sProp 𝕄))]
  iintro ⟨HI, ⟨Hat, HR⟩, Htok⟩
  ihave HK := (BI.bigSep_exists_pi Finset.univ (fun (ck : Dev nD × Key) (κ : ℕ) => (cellInv EX (Rd m ρ) κ (kcell ck) : sProp 𝕄))) $$ HI
  icases HK with ⟨%K, HI⟩
  ihave Htk := (toks_around (F := F)) $$ Htok
  iapply (bigSep_with_persistent (R := recs m ρ K) fun c _ => start_each m ρ K c)
  isplitl [HI HR]
  · unfold recs; rw [bigSep_sep']
    isplitl [HI] <;> iassumption
  · iapply ((Entails.of_eq (bigSep_sep' Finset.univ (fun c : Dev nD => bigSep Finset.univ fun k : Key => (atPos EX (kcell (c, k)) 0 ∅ 0 : sProp 𝕄)) paid).symm).trans
      (bigSep_mono fun c _ => linear_intro (F := F) c))
    isplitl [Hat] <;> iassumption

/-- All devices' semaphores at once become the cells' invariants, and each device's start. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit dealt at launch -/

theorem bar_eq_iff {a b : Dev nD} : Iff (barCell a = barCell b) (a = b) :=
  ⟨fun h => congrArg (fun g : GSem nD τ sig => g.1.1) h, fun h => h ▸ rfl⟩
theorem recv_eq_iff {a b : Dev nD} {s s' : Fin 4} : Iff (recvCell a s = recvCell b s') (a = b ∧ s = s') :=
  ⟨fun h => ⟨congrArg (fun g : GSem nD τ sig => g.1.1) h, recv_inj _ _ (congrArg Prod.snd h)⟩, fun ⟨h, h'⟩ => h ▸ h' ▸ rfl⟩

theorem xfer_bar (d e c : Dev nD) : xferTally d e (barCell c) () = 0 := by
  unfold xferTally; split
  · rfl
  · rw [tallyAt_ne_cell (fun h => recv_ne_bar _ (congrArg Prod.snd h).symm)]; rfl
theorem xfer_recv (d e c : Dev nD) (s : Fin 4) : xferTally d e (recvCell c s) () = if c = e ∧ s = d ∧ e ≠ d then N else 0 := by
  unfold xferTally; split
  · next h => rw [if_neg (fun h' => h'.2.2 h)]; rfl
  · next h => rw [tallyAt_apply]; exact if_congr ⟨fun h' => ⟨(recv_eq_iff.mp h'.1).1, (recv_eq_iff.mp h'.1).2, h⟩, fun h' => ⟨recv_eq_iff.mpr ⟨h'.1, h'.2.1⟩, rfl⟩⟩ rfl rfl
theorem unit_bar (d c : Dev nD) : tallyAt (barCell d) () 1 (barCell c) () = if c = d then 1 else 0 := by
  rw [tallyAt_apply]; exact if_congr ⟨fun h => bar_eq_iff.mp h.1, fun h => ⟨bar_eq_iff.mpr h, rfl⟩⟩ rfl rfl
theorem unit_recv (d c : Dev nD) (s : Fin 4) : tallyAt (barCell d) () 1 (recvCell c s) () = 0 := by
  rw [tallyAt_ne_cell (fun h => recv_ne_bar _ (congrArg Prod.snd h))]; rfl

/-- A device owes one unit to each other device's barrier cell, -/
theorem owed_bar (d c : Dev nD) : O₀ d (barCell c) () = if d = c then 0 else 1 := by
  simp only [O₀, O₁, O₂, owed, Pi.add_apply, Finsupp.add_apply, xfer_bar, unit_bar]
  revert d c; decide
/-- and a transfer's credit to its own receive cell on each other device. -/
theorem owed_recv (d c : Dev nD) (s : Fin 4) (h : s ≠ c) : O₀ d (recvCell c s) () = if d = s then N else 0 := by
  simp only [O₀, O₁, O₂, owed, Pi.add_apply, Finsupp.add_apply, xfer_recv, unit_recv]
  generalize N = n
  fin_cases c <;> fin_cases s <;> fin_cases d <;> first | exact absurd rfl h | (simp <;> first | rfl | exact Nat.zero_add n)

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (s : Fin 4) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s h,
    Finset.sum_ite_eq' Finset.univ s fun _ => N, if_pos (Finset.mem_univ _)]

theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := (Finset.univ.erase c).image fun s : Fin 4 => SemLoc.dma (recvS s)) fun x hx => ?_).trans ?_
  · obtain ⟨s, -, rfl⟩ := Finset.mem_image.mp hx
    exact Finset.mem_erase.mpr ⟨recv_ne_bar s, Finset.mem_univ _⟩
  · rw [bigSep_image_of_injOn (fun s _ s' _ h => recv_inj s s' h)]
    exact bigSep_mono fun s hs => Entails.of_eq (congrArg cred (launch_recv c s (Finset.ne_of_mem_erase hs)))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The scratch buffers, whole, at some contents. -/
theorem scratch_eq (c : Dev nD) : (scratch c : sProp 𝕄)
    = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) := by
  have h (b : Ref sig .tc) : iprop(∃ X, owns (c : Thread nD τ) (Memref.whole b) fullShare X)
      = (iprop(∃ f : Buf (Elt F) ((c : Thread nD τ).loc b), ((c : Thread nD τ).loc b) ↦{fullShare} f) : sProp 𝕄) := by
    simp only [owns_whole_eq]
    have h1 : iprop(∃ X : b.ty.Contents (Elt F), stg c b X) ⊢ (iprop(∃ f : Buf (Elt F) ((c : Thread nD τ).loc b), ((c : Thread nD τ).loc b) ↦{fullShare} f) : sProp 𝕄) := by
      iintro ⟨%X, %f, -, H⟩; iexists f; iexact H
    have h2 : iprop(∃ f : Buf (Elt F) ((c : Thread nD τ).loc b), ((c : Thread nD τ).loc b) ↦{fullShare} f) ⊢ (iprop(∃ X : b.ty.Contents (Elt F), stg c b X) : sProp 𝕄) := by
      iintro ⟨%f, H⟩; iexists f; iexists f; isplitr
      · ipureintro; rfl
      · iexact H
    exact BI.equiv_iff.mp ⟨h1, h2⟩
  unfold scratch; rw [← h, ← h]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [scratch_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [scratch_eq, sems0_eq]
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of four devices, for any float values, from any memory with zero counters: every weakly fair execution of
    the program terminates, with each window's array at its final contents and every counter at zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold after the run what they held; -/
theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

end Cert.AllToAll

end
-- ==== Proof.Outcome.lean ====
/-
# Outcome: what the run leaves in memory

The three windows' arrays after the launch, each read as a whole array: the arguments as they were, the result at the
stack of bands the body computed. Stated for any float values.
-/
module

public import proofs.«01_k».proof.Proof.Launch

@[expose] public section

noncomputable section

namespace Cert.AllToAll

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- A staged argument is the argument: its window has one block, the whole array. -/
theorem xstg_eq (c : Dev nD) : xstg m ρ c = m ((c : Thread nD τ).loc main_arg0) :=
  Memref.read_access_unit_zero (Elt F) main_arg0
    (off := fun a => win0_0.index (0 : Fin 1) a * main_arg0.ty.shape.size a)
    (funext fun a => by fin_cases a <;> decide) (fun a => by fin_cases a <;> decide) _
theorem wstg_eq (c : Dev nD) : wstg m ρ c = m ((c : Thread nD τ).loc main_arg1) :=
  Memref.read_access_unit_zero (Elt F) main_arg1
    (off := fun a => win0_1.index (0 : Fin 1) a * main_arg1.ty.shape.size a)
    (funext fun a => by fin_cases a <;> decide) (fun a => by fin_cases a <;> decide) _

/-- The one grid point writes its block back to the result's array, and that block is the whole array: after the run the
    array holds what the body wrote. -/
theorem final_out (c : Dev nD) : finalA m ρ c (2 : Fin 3) = outAt m ρ c := by
  have hflush : finalA m ρ c (2 : Fin 3) = (win0_2.blk (0 : Fin 1)).view.write (Elt F) ((dats m ρ 0 c).arrAt (2 : Fin 3) 0) (outAt m ρ c) Finset.univ :=
    ((dats m ρ 0 c).arrAt_succ (2 : Fin 3) (0 : Fin 1)).trans (if_pos (by decide))
  have hread := congrArg ((win0_2.blk (0 : Fin 1)).view.read (Elt F)) hflush
  rw [View.read_write_univ] at hread
  exact (Memref.read_access_unit_zero (Elt F) main_v1
    (off := fun a => win0_2.index (0 : Fin 1) a * main_v1.ty.shape.size a)
    (funext fun a => by fin_cases a <;> decide) (fun a => by fin_cases a <;> decide) _).symm.trans hread

/-- On the mesh of four devices, for any float values, from any memory with zero counters: every weakly fair execution
    terminates, the result of every device at its stacked bands, the arguments unchanged, and every counter at zero. -/
theorem run_main : θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono
    (fun _ h => ⟨fun c => ⟨(h.1 c (2 : Fin 3)).trans (final_out m ρ c), (h.1 c (0 : Fin 3)).trans (final_x m ρ c),
      (h.1 c (1 : Fin 3)).trans (final_w m ρ c)⟩, h.2⟩) (run_windows m ρ)

end Cert.AllToAll

end
-- ==== Proof.Value.lean ====
/-
# Value: a device's result, entry by entry, over the extended reals

Row `512 s + r` of device `c`'s result comes from device `s`: it is the gate of row `r` of `s`'s product, at the columns
`512 c` to `512 c + 511` of the weights.
-/
module

public import proofs.«01_k».proof.Proof.Outcome
public import Idealize.ShloMosaic.Lib.MatmulPlain
public import Idealize.ShloMosaic.Lib.IdealHost
public import Idealize.ShloMosaic.Lib.ValueIdx
public import Idealize.ShloMosaic.Lib.Pipeline.Value

@[expose] public section

noncomputable section

namespace Cert.AllToAll

open Cert.KernelIdeal Cert.KernelIdeal.Gen
open Idealize.ShloMosaic Idealize.ShloMosaic.ValueIdx
open Idealize.ShloMosaic.TcCoe
open scoped BigOperators

/-- An entry of the product of an `n × 2048` array with a `2048 × p` array. -/
def prodAt {n p : ℕ} (x : (⟨2, ![n, 2048]⟩ : Shape).Idx → EReal) (w : (⟨2, ![2048, p]⟩ : Shape).Idx → EReal)
    (i : Fin n) (j : Fin p) : EReal := ∑ k : Fin 2048, x (ix2 i k) * w (ix2 k j)

/-- The gate: `y` times the logistic function of `y`. -/
def gate (y : EReal) : EReal := y * Ideal.logistic y

/-- An exponential over the extended reals isn't negative, -/
theorem exp_nonneg (x : EReal) : 0 ≤ Ideal.exp x := by
  induction x using EReal.rec with
  | bot => simp
  | top => simp
  | coe r => rw [Ideal.exp_coe]; exact EReal.coe_nonneg.mpr (Real.exp_nonneg r)

/-- so the gate is a quotient. -/
theorem gate_eq (y : EReal) : gate y = Ideal.div y (1 + Ideal.exp (-y)) := by
  have h : (1 : EReal) + Ideal.exp (-y) ≠ 0 :=
    (lt_of_lt_of_le zero_lt_one (le_add_of_nonneg_right (exp_nonneg (-y)))).ne'
  exact Ideal.mul_one_div h

/-- The product the kernel computes, at an entry. -/
theorem pay1_apply (x : Vec Ideal S512x2048 .bf16) (w : Vec Ideal S2048x2048 .bf16) (i : Fin 512) (j : Fin 2048) :
    k0_pay1 x w (ix2 i j) = prodAt x w i j := by
  unfold k0_pay1
  rw [shapeCast_self, shapeCast_self]
  refine (Ideal.matmul_plain_apply (M := 512) (K := 2048) (N := 2048) (φ₁ := .bf16) (φ₂ := .bf16) none x w
    (constant S512x2048 .f32 0x00000000#32) i j).trans ?_
  show Ideal.ofBits .f32 0x00000000#32 + _ = _
  rw [Ideal.ofBits_zero_f32, zero_add]
  rfl

/-- A slot cut from a product at column `o`, at an entry. -/
theorem cut_apply (o : ℕ) (ho : o + 512 ≤ 2048) (v : S512x2048.Idx → EReal) (hs : S512x2048.Slices ![0, o] S512x512)
    (hc : S512x512.ShapeCasts S1x512x512) (r j : Fin 512) :
    shapeCast S1x512x512 (extractStridedSlice S512x512 ![0, o] v hs) hc (ix3 (0 : Fin 1) r j)
      = v (ix2 r (⟨o + j.val, by omega⟩ : Fin 2048)) := by
  refine (shapeCast_apply _ hc (ix3 (0 : Fin 1) r j) (ix2 r j) ?_).trans ?_
  · rw [Shape.rowMajor_val_two, Shape.rowMajor_val_three]
    show r.val * 512 + j.val = (0 * 512 + r.val) * 512 + j.val
    omega
  · refine extractStridedSlice_apply _ v hs (ix2 r j) (ix2 r (⟨o + j.val, by omega⟩ : Fin 2048)) ?_
    intro a
    match a with
    | ⟨0, _⟩ => show r.val = 0 + r.val; omega
    | ⟨1, _⟩ => rfl

/-- The gate as the kernel computes it, at an entry. -/
theorem pay9_apply (v : Vec Ideal S1x512x512 .bf16) (r j : Fin 512) :
    k0_pay9 v (ix2 r j) = gate (v (ix3 (0 : Fin 1) r j)) := by
  have h : shapeCast S512x512 v shapeCasts_S1x512x512_S512x512 (ix2 r j) = v (ix3 (0 : Fin 1) r j) :=
    shapeCast_apply v _ (ix2 r j) (ix3 (0 : Fin 1) r j) (by
      rw [Shape.rowMajor_val_two, Shape.rowMajor_val_three]
      show (0 * 512 + r.val) * 512 + j.val = r.val * 512 + j.val
      omega)
  show gate (shapeCast S512x512 v shapeCasts_S1x512x512_S512x512 (ix2 r j)) = _
  rw [h]

variable (m : (ℓ : Loc nD τ sig) → Buf (Elt Ideal) ℓ) (ρ : Dev nD → PrngReg)

/-- What device `s` computes for device `c`, at an entry: its product, at column `512 c + j`. -/
theorem sent_apply (s c : Dev nD) (r j : Fin 512) :
    sent m ρ s c (ix3 (0 : Fin 1) r j) = prodAt (n := 512) (p := 2048) (m ((s : Thread nD τ).loc main_arg0))
      (m ((s : Thread nD τ).loc main_arg1)) r (⟨c.val * 512 + j.val, by have h : c.val < 4 := c.isLt; omega⟩ : Fin 2048) := by
  have key : ∀ (d o : ℕ) (ho : o + 512 ≤ 2048) (_ : o = d * 512) (hd : d * 512 + j.val < 2048)
      (hs : S512x2048.Slices ![0, o] S512x512) (hc : S512x512.ShapeCasts S1x512x512),
      shapeCast S1x512x512 (extractStridedSlice S512x512 ![0, o] (k0_pay1 (xstg m ρ s) (wstg m ρ s)) hs) hc (ix3 (0 : Fin 1) r j)
        = prodAt (n := 512) (p := 2048) (m ((s : Thread nD τ).loc main_arg0)) (m ((s : Thread nD τ).loc main_arg1)) r ⟨d * 512 + j.val, hd⟩ := by
    intro d o ho hod hd hs hc
    subst hod
    rw [xstg_eq, wstg_eq]
    exact (cut_apply _ ho _ hs hc r j).trans (pay1_apply _ _ r _)
  match c with
  | ⟨0, _⟩ => exact key 0 0 (by decide) rfl _ slices_S512x2048_o0_0_S512x512 _
  | ⟨1, _⟩ => exact key 1 512 (by decide) rfl _ slices_S512x2048_o0_512_S512x512 _
  | ⟨2, _⟩ => exact key 2 1024 (by decide) rfl _ slices_S512x2048_o0_1024_S512x512 _
  | ⟨3, _⟩ => exact key 3 1536 (by decide) rfl _ slices_S512x2048_o0_1536_S512x512 _

/-- The device a row of a result comes from, -/
def owner (i : Fin 2048) : Dev nD := (⟨i.val / 512, by omega⟩ : Fin 4)
/-- and where it is in that device's block. -/
def rowIn (i : Fin 2048) : Fin 512 := ⟨i.val % 512, Nat.mod_lt _ (by decide)⟩

/-- Device `c`'s result at row `512 s + r` and column `j`: the gate of device `s`'s product at row `r` and column
    `512 c + j`. -/
theorem out_apply (c : Dev nD) (i : Fin 2048) (j : Fin 512) :
    outAt m ρ c (ix2 i j) = gate (prodAt (n := 512) (p := 2048)
      (m ((owner i : Thread nD τ).loc main_arg0)) (m ((owner i : Thread nD τ).loc main_arg1))
      (rowIn i) ⟨c.val * 512 + j.val, by have h : c.val < 4 := c.isLt; omega⟩) :=
  (pay9_apply _ (rowIn i) j).trans (congrArg gate (sent_apply m ρ (owner i) c (rowIn i) j))

end Cert.AllToAll

end
-- ==== Proof.RefValue.lean ====
/-
# RefValue: the two references' results, entry by entry, over the extended reals

Both hold the plain quotient `y / (1 + exp (-y))` of the product's entry `y`, the one with `y` clipped to [-60, 60] inside
the exponential, the other with `y` as it is. A change of format is the identity over the extended reals.
-/
module

public import proofs.«01_k».proof.Proof.Value
public import proofs.«01_k».proof.Proof.Gen.ReferenceIdeal.Run
public import proofs.«01_k».proof.Proof.Gen.SiluIdeal.Run
public import proofs.«01_k».proof.Proof.Gen.Pre_in_clip_KernelIdeal
public import Idealize.ShloMosaic.Lib.StackMember

@[expose] public section

noncomputable section

namespace Cert.AllToAll

open Idealize.ShloMosaic Idealize.ShloMosaic.ValueIdx Idealize.SL.Sem

/-- The patterns of the two clip bounds are the numbers 60 and -60. -/
theorem sixty : Ideal.ofBits .f32 0x42700000#32 = ((60 : ℝ) : EReal) := by
  simp [Ideal.ofBits, Ideal.ieee, -EReal.coe_mul]; norm_num
theorem neg_sixty : Ideal.ofBits .f32 0xC2700000#32 = ((-60 : ℝ) : EReal) := by
  simp [Ideal.ofBits, Ideal.ieee, -EReal.coe_mul, -EReal.coe_neg]; norm_num

/-- An extended real clipped to [-60, 60]; -/
def clip (y : EReal) : EReal := min ((60 : ℝ) : EReal) (max ((-60 : ℝ) : EReal) y)
/-- one whose magnitude is at most 60 is its own clip. -/
theorem clip_eq {y : EReal} (h : max y (-y) ≤ ((60 : ℝ) : EReal)) : clip y = y := by
  have h1 : y ≤ ((60 : ℝ) : EReal) := le_trans (le_max_left _ _) h
  have h2 : ((-60 : ℝ) : EReal) ≤ y := by
    have h' : -y ≤ ((60 : ℝ) : EReal) := le_trans (le_max_right _ _) h
    have := EReal.neg_le_neg_iff.mpr h'
    rwa [neg_neg, ← EReal.coe_neg] at this
  unfold clip
  rw [max_eq_right h2, min_eq_right h1]

section References

variable (x w : FVec Ideal (⟨2, ![2048, 2048]⟩ : Shape) .bf16)

/-- The clipped reference's result, as a term of its two arguments; -/
def refOut : FVec Ideal (⟨2, ![2048, 2048]⟩ : Shape) .f32 :=
  fun i => Ideal.div (prodAt (n := 2048) (p := 2048) x w (i 0) (i 1))
    (1 + Ideal.exp (-(clip (prodAt (n := 2048) (p := 2048) x w (i 0) (i 1)))))
/-- the other's. -/
def siluOut : FVec Ideal (⟨2, ![2048, 2048]⟩ : Shape) .f32 :=
  fun i => Ideal.div (prodAt (n := 2048) (p := 2048) x w (i 0) (i 1))
    (1 + Ideal.exp (-(prodAt (n := 2048) (p := 2048) x w (i 0) (i 1))))

end References

/-- The host's product, at an entry. -/
theorem dot_apply (x w : FVec Ideal (⟨2, ![2048, 2048]⟩ : Shape) .bf16) (i : (⟨2, ![2048, 2048]⟩ : Shape).Idx) :
    Host.dotGeneral (DotDims.plain 2048 2048 2048) none x w i = prodAt (n := 2048) (p := 2048) x w (i 0) (i 1) := by
  conv_lhs => rw [eq_ix2 i]
  exact StackMember.dotGeneral_plain_apply (m := 2048) (n := 2048) (k := 2048) (φ₁ := .bf16) (φ₂ := .bf16) none x w (i 0) (i 1)

section Clipped

open Cert.ReferenceIdeal Cert.ReferenceIdeal.Gen

/-- The clipped reference's run ends with its result at `refOut` of its arguments, and those unchanged. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ⟨(h c).1.trans (funext fun i => ?_), (h c).2⟩) (Value.run m ρ)
  have hd := dot_apply (m ((c.tc : Thread nD τ).loc main_arg0)) (m ((c.tc : Thread nD τ).loc main_arg1)) i
  unfold refOut clip
  rw [← hd, ← sixty, ← neg_sixty, ← Ideal.ofBits_one_f32]
  rfl

end Clipped

section Plain

open Cert.SiluIdeal Cert.SiluIdeal.Gen

/-- The plain reference's run ends with its result at `siluOut` of its arguments, and those unchanged. -/
theorem run_silu (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = siluOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ⟨(h c).1.trans (funext fun i => ?_), (h c).2⟩) (Value.run m ρ)
  have hd := dot_apply (m ((c.tc : Thread nD τ).loc main_arg0)) (m ((c.tc : Thread nD τ).loc main_arg1)) i
  unfold siluOut
  rw [← hd, ← Ideal.ofBits_one_f32]
  rfl

end Plain

end Cert.AllToAll

end
-- ==== Proof.Equation.lean ====
/-
# Equation: the devices' results are the blocks of the references' results

The rows of the first argument lie on the devices in order, so row `512 s + r` of the whole is row `r` on device `s`: an
entry of the product is the same number on the mesh and in the reference. The gate of it is the reference's quotient,
and clipping changes nothing where the product's magnitude is at most 60.
-/
module

public import proofs.«01_k».proof.Proof.RefValue
public import proofs.«01_k».proof.Defs
public import Idealize.ShloMosaic.Lib.Layout

@[expose] public section

noncomputable section

namespace Cert.AllToAll

open Cert.KernelIdeal Cert.KernelIdeal.Gen
open Idealize.ShloMosaic Idealize.ShloMosaic.ValueIdx
open Idealize.ShloMosaic.TcCoe

variable (m : (ℓ : Loc nD τ sig) → Buf (Elt Ideal) ℓ) (ρ : Dev nD → PrngReg)
variable (x w : FVec Ideal (⟨2, ![2048, 2048]⟩ : Shape) .bf16)

/-- The devices' arguments are the parts of `x` and `w`: the rows of `x` in four blocks, `w` whole on every device. -/
def Holds : Prop := ∀ c : Dev nD,
  m ((c : Thread nD τ).loc main_arg0) = Layout.block ⟨2, ![512, 2048]⟩ ⟨2, ![2048, 2048]⟩ 0 4 c x
  ∧ m ((c : Thread nD τ).loc main_arg1) = w

variable {m x w}

/-- An entry of device `s`'s product, at the row of a whole row `i` that it owns, is the whole product's entry. -/
theorem prod_owner (h : Holds m x w) (i j : Fin 2048) :
    prodAt (n := 512) (p := 2048) (m ((owner i : Thread nD τ).loc main_arg0)) (m ((owner i : Thread nD τ).loc main_arg1)) (rowIn i) j
      = prodAt (n := 2048) (p := 2048) x w i j := by
  rw [(h (owner i)).1, (h (owner i)).2]
  refine Finset.sum_congr rfl fun k _ => congrArg (· * w (ix2 k j)) ?_
  refine congrArg x (funext fun a => Fin.ext ?_)
  match a with
  | ⟨0, _⟩ => show i.val / 512 * 512 + i.val % 512 = i.val; omega
  | ⟨1, _⟩ => rfl

/-- Device `c`'s result is its block of columns of the plain reference's result. -/
theorem out_silu (h : Holds m x w) (c : Dev nD) :
    outAt m ρ c = Layout.block ⟨2, ![2048, 512]⟩ ⟨2, ![2048, 2048]⟩ 1 4 c (siluOut x w) := by
  funext i
  refine (congrArg (outAt m ρ c) (eq_ix2 (n0 := 2048) (n1 := 512) i)).trans ((out_apply m ρ c (i 0) (i 1)).trans
    ((congrArg gate (prod_owner h (i 0) _)).trans ((gate_eq _).trans ?_)))
  rfl

/-- Where every entry of the product has magnitude at most 60, the two references agree. -/
theorem ref_eq_silu (h : ∀ i j : Fin 2048, max (prodAt (n := 2048) (p := 2048) x w i j) (-prodAt (n := 2048) (p := 2048) x w i j) ≤ ((60 : ℝ) : EReal)) :
    refOut x w = siluOut x w := by
  funext i
  unfold refOut siluOut
  rw [clip_eq (h (i 0) (i 1))]

/-- The precondition's test on one device, at an entry: the magnitude of the product's entry against 60. -/
theorem pre_apply (a : FVec Ideal S512x2048 .bf16) (b : FVec Ideal S2048x2048 .bf16) (r : Fin 512) (j : Fin 2048) :
    Cert.Pre_in_clip_KernelIdeal.fn a b (ix2 r j)
      = Ideal.cmp .ole (max (prodAt (n := 512) (p := 2048) a b r j) (-prodAt (n := 512) (p := 2048) a b r j)) ((60 : ℝ) : EReal) := by
  have hd := StackMember.dotGeneral_plain_apply (m := 512) (n := 2048) (k := 2048) (φ₁ := .bf16) (φ₂ := .bf16) none a b r j
  unfold prodAt
  rw [← hd, ← sixty]
  rfl

/-- The precondition, read over every device, bounds every entry of the product. -/
theorem bound (h : Holds m x w)
    (hpre : Cert.Pre_KernelIdeal_in_clip_KernelIdeal (hPre_in_clip_KernelIdeal := Cert.Pre_in_clip_KernelIdeal.Gen.facts) m)
    (i j : Fin 2048) :
    max (prodAt (n := 2048) (p := 2048) x w i j) (-prodAt (n := 2048) (p := 2048) x w i j) ≤ ((60 : ℝ) : EReal) := by
  have e := (pre_apply _ _ (rowIn i) j).symm.trans (congrFun (hpre (owner i)) (ix2 (rowIn i) j))
  rw [prod_owner h i j] at e
  by_contra hn
  unfold Ideal.cmp at e
  dsimp only at e
  rw [decide_eq_false hn] at e
  exact absurd e (by decide)

end Cert.AllToAll

end
-- ==== Proof.lean ====
/-
# The certificate's claims, assembled

The kernel's text is the same at the bit-exact floats and at the extended reals, so one run theorem, stated for any float
values (`run_main`, Proof/Outcome.lean), gives both frames and the value. The references' runs are Proof/RefValue.lean's,
the equation between the two sides is Proof/Equation.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.Pre_in_clip_KernelIdeal
public import proofs.«01_k».proof.Proof.Gen.Pre_in_clip_ReferenceIdeal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem
open Cert.AllToAll

/-! ## The frames -/

/-- The two printed programs' kernel bodies are the same; -/
theorem bodies_eq : Cert.Kernel.defs₀ (F := Bits) = Cert.KernelIdeal.defs₀ (F := Bits) := by
  funext p ℓ a
  match p, ℓ, a with
  | .tc, 0, (t, s) => rfl
  | .scScalar _, _, _ => rfl
  | .scVector _ _, _, _ => rfl
/-- so their body tables are. -/
theorem defs_eq : Cert.Kernel.defs (F := Bits) = Cert.KernelIdeal.defs (F := Bits) :=
  congrArg (Pipeline.defs (Cert.Kernel.pcfgs (F := Bits))) bodies_eq

/-- The kernel at the bit-exact floats: it terminates without a fault, with its arguments unchanged and every counter zero. -/
theorem frame_kernel : Cert.quiescent_Kernel (hKernel := Cert.Kernel.Gen.facts) := by
  intro m ρ _
  rw [defs_eq]
  exact (θ_run Cert.KernelIdeal.defs _ _).mono (fun _ h => ⟨fun c => (h.1 c).2, h.2⟩) (run_main (F := Bits) m ρ)
/-- The same at the extended reals, -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)
/-- and so where the precondition holds. -/
theorem frame_kernelIdeal_pre : Cert.quiescent_KernelIdeal_pre_in_clip_KernelIdeal
    (hKernelIdeal := Cert.KernelIdeal.Gen.facts) (hPre_in_clip_KernelIdeal := Cert.Pre_in_clip_KernelIdeal.Gen.facts) :=
  fun m ρ _ => (θ_run Cert.KernelIdeal.defs _ _).mono (fun _ h => ⟨fun c => (h.1 c).2, h.2⟩) (run_main (F := Ideal) m ρ)
/-- The clipped reference: it terminates with its arguments unchanged; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (run_reference m ρ)
/-- The same where the precondition holds. -/
theorem frame_reference_pre : Cert.quiescent_ReferenceIdeal_pre_in_clip_ReferenceIdeal
    (hReferenceIdeal := Cert.ReferenceIdeal.Gen.facts) (hPre_in_clip_ReferenceIdeal := Cert.Pre_in_clip_ReferenceIdeal.Gen.facts) :=
  fun m ρ _ => frame_reference m ρ trivial
/-- The plain reference, likewise. -/
theorem frame_silu : Cert.quiescent_SiluIdeal (hSiluIdeal := Cert.SiluIdeal.Gen.facts) := fun m ρ _ =>
  (θ_run Cert.SiluIdeal.defs _ _).mono (fun r h => ⟨fun c => (h c).2, sem_eq_zero_of_no_sems (by decide) r.2⟩) (run_silu m ρ)

/-! ## The values -/

/-- Over the extended reals, with no precondition: each device's result is its block of columns of the plain reference's. -/
theorem value_silu : Cert.algebraic_KernelIdeal_SiluIdeal
    (hKernelIdeal := Cert.KernelIdeal.Gen.facts) (hSiluIdeal := Cert.SiluIdeal.Gen.facts) := by
  intro m ρ m' ρ' _ hagree
  refine ⟨siluOut (m' (((0 : Dev Cert.SiluIdeal.nD).tc : Thread _ Cert.SiluIdeal.τ).loc Cert.SiluIdeal.main_arg0))
    (m' (((0 : Dev Cert.SiluIdeal.nD).tc : Thread _ Cert.SiluIdeal.τ).loc Cert.SiluIdeal.main_arg1)), ?_, ?_⟩
  · exact (θ_run Cert.KernelIdeal.defs _ _).mono (fun _ h c => ⟨(h.1 c).1.trans (out_silu ρ hagree c), (h.1 c).2⟩)
      (run_main (F := Ideal) m ρ)
  · exact (θ_run Cert.SiluIdeal.defs _ _).mono (fun _ h => h 0) (run_silu m' ρ')

/-- Over the extended reals, where every entry of the product has magnitude at most 60: each device's result is its block of
    columns of the clipped reference's. -/
theorem value_reference : Cert.algebraic_KernelIdeal_ReferenceIdeal_pre_in_clip_KernelIdeal
    (hKernelIdeal := Cert.KernelIdeal.Gen.facts) (hReferenceIdeal := Cert.ReferenceIdeal.Gen.facts)
    (hPre_in_clip_KernelIdeal := Cert.Pre_in_clip_KernelIdeal.Gen.facts) := by
  intro m ρ m' ρ' hpre hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · rw [ref_eq_silu (bound hagree hpre)]
    exact (θ_run Cert.KernelIdeal.defs _ _).mono (fun _ h c => ⟨(h.1 c).1.trans (out_silu ρ hagree c), (h.1 c).2⟩)
      (run_main (F := Ideal) m ρ)
  · exact (θ_run Cert.ReferenceIdeal.defs _ _).mono (fun _ h => h 0) (run_reference m' ρ')

/-- Everything the certificate claims. -/
theorem claim : Cert.Claim :=
  ⟨Cert.Kernel.Gen.facts, Cert.KernelIdeal.Gen.facts, Cert.ReferenceIdeal.Gen.facts, Cert.SiluIdeal.Gen.facts,
    Cert.Pre_in_clip_KernelIdeal.Gen.facts, Cert.Pre_in_clip_ReferenceIdeal.Gen.facts,
    frame_kernel, frame_kernelIdeal, frame_kernelIdeal_pre, frame_reference, frame_reference_pre, frame_silu, trivial,
    value_reference, value_silu⟩

end Cert.Proof

end
